-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v257) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v16_0)) (v1 : (c : Dev Cert.Kernel3Ideal.nD) → Buf (Elt Ideal) ((c.tc : Thread Cert.Kernel3Ideal.nD Cert.Kernel3Ideal.τ).loc Cert.Kernel3Ideal.main_v16_1)) (v2 : (c : Dev Cert.Kernel3Ideal.nD) → Buf (Elt Ideal) ((c.tc : Thread Cert.Kernel3Ideal.nD Cert.Kernel3Ideal.τ).loc Cert.Kernel3Ideal.main_v16_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_v16_1) = v1 c
          ∧ r.2.mem ((c.tc : Thread Cert.Kernel3Ideal.nD Cert.Kernel3Ideal.τ).loc Cert.Kernel3Ideal.main_v16_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_v49) = v1 c
          ∧ r.2.mem ((c.tc : Thread Cert.Reference3Ideal.nD Cert.Reference3Ideal.τ).loc Cert.Reference3Ideal.main_v51) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v57) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v213)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v213) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v35) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S16384x6656 : Shape := ⟨2, ![16384, 6656]⟩
abbrev S128 : Shape := ⟨1, ![128]⟩
abbrev S1x128 : Shape := ⟨2, ![1, 128]⟩
abbrev S4x4096x6656 : Shape := ⟨3, ![4, 4096, 6656]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S128x1 : Shape := ⟨2, ![128, 1]⟩
abbrev S4096x128 : Shape := ⟨2, ![4096, 128]⟩
abbrev S8 : Shape := ⟨1, ![8]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S8x1x128x128 : Shape := ⟨4, ![8, 1, 128, 128]⟩
abbrev S8x4x128x128 : Shape := ⟨4, ![8, 4, 128, 128]⟩
abbrev S4x4096x1024 : Shape := ⟨3, ![4, 4096, 1024]⟩
abbrev S1x512x128 : Shape := ⟨3, ![1, 512, 128]⟩
abbrev S1x512x256 : Shape := ⟨3, ![1, 512, 256]⟩
abbrev S512x128 : Shape := ⟨2, ![512, 128]⟩
abbrev S2x4x128x128 : Shape := ⟨4, ![2, 4, 128, 128]⟩
abbrev S2x128x128 : Shape := ⟨3, ![2, 128, 128]⟩
abbrev S1x1x128x128 : Shape := ⟨4, ![1, 1, 128, 128]⟩

abbrev nBuf : Space → Nat
  | .hbm => 104
  | .vmem => 17
  | .smem => 0
  | _ => 0

abbrev bufTy : (tb : Table) → Fin (tcTables nBuf tb) → BufTy
  | .hbm, ⟨0, _⟩ => ⟨S16384x6656, .f32⟩
  | .hbm, ⟨1, _⟩ => ⟨S128, .i32⟩
  | .hbm, ⟨2, _⟩ => ⟨S128, .i1⟩
  | .hbm, ⟨3, _⟩ => ⟨S128, .i1⟩
  | .hbm, ⟨4, _⟩ => ⟨S1x128, .f32⟩
  | .hbm, ⟨5, _⟩ => ⟨S4x4096x6656, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S4096, .f32⟩
  | .hbm, ⟨15, _⟩ => ⟨S4096x1, .f32⟩
  | .hbm, ⟨16, _⟩ => ⟨S1x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S128, .i32⟩
  | .hbm, ⟨25, _⟩ => ⟨S128x1, .i32⟩
  | .hbm, ⟨26, _⟩ => ⟨S4096x128, .f32⟩
  | .hbm, ⟨27, _⟩ => ⟨S4096x32, .f32⟩
  | .hbm, ⟨28, _⟩ => ⟨S_, .i32⟩
  | .hbm, ⟨29, _⟩ => ⟨S128, .i32⟩
  | .hbm, ⟨30, _⟩ => ⟨S128, .i32⟩
  | .hbm, ⟨31, _⟩ => ⟨S128, .i32⟩
  | .hbm, ⟨32, _⟩ => ⟨S128x1, .i32⟩
  | .hbm, ⟨33, _⟩ => ⟨S4096x128, .f32⟩
  | .hbm, ⟨34, _⟩ => ⟨S4096x128, .f32⟩
  | .hbm, ⟨35, _⟩ => ⟨S4096x128, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S8, .f32⟩
  | .hbm, ⟨44, _⟩ => ⟨S8, .f32⟩
  | .hbm, ⟨45, _⟩ => ⟨S8, .f32⟩
  | .hbm, ⟨46, _⟩ => ⟨S128, .f32⟩
  | .hbm, ⟨47, _⟩ => ⟨S128x1, .f32⟩
  | .hbm, ⟨48, _⟩ => ⟨S1x128, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S1x128x128, .f32⟩
  | .hbm, ⟨53, _⟩ => ⟨S_, .f32⟩
  | .hbm, ⟨54, _⟩ => ⟨S1x128x128, .f32⟩
  | .hbm, ⟨55, _⟩ => ⟨S1x128x128, .i1⟩
  | .hbm, ⟨56, _⟩ => ⟨S_, .f32⟩
  | .hbm, ⟨57, _⟩ => ⟨S128x128, .f32⟩
  | .hbm, ⟨58, _⟩ => ⟨S128x128, .f32⟩
  | .hbm, ⟨59, _⟩ => ⟨S1x128x128, .f32⟩
  | .hbm, ⟨60, _⟩ => ⟨S8x1x1, .f32⟩
  | .hbm, ⟨61, _⟩ => ⟨S8x128x128, .f32⟩
  | .hbm, ⟨62, _⟩ => ⟨S8x128x128, .f32⟩
  | .hbm, ⟨63, _⟩ => ⟨S8x128x128, .f32⟩
  | .hbm, ⟨64, _⟩ => ⟨S8x128x128, .f32⟩
  | .hbm, ⟨65, _⟩ => ⟨S_, .f32⟩
  | .hbm, ⟨66, _⟩ => ⟨S_, .f32⟩
  | .hbm, ⟨67, _⟩ => ⟨S8x128x128, .i1⟩
  | .hbm, ⟨68, _⟩ => ⟨S8x128x128, .f32⟩
  | .hbm, ⟨69, _⟩ => ⟨S8x128x128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S8x1, .f32⟩
  | .hbm, ⟨75, _⟩ => ⟨S8x128, .f32⟩
  | .hbm, ⟨76, _⟩ => ⟨S8x128, .f32⟩
  | .hbm, ⟨77, _⟩ => ⟨S8x128, .f32⟩
  | .hbm, ⟨78, _⟩ => ⟨S8x128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S1x128, .f32⟩
  | .hbm, ⟨83, _⟩ => ⟨S8x1, .f32⟩
  | .hbm, ⟨84, _⟩ => ⟨S8x128, .f32⟩
  | .hbm, ⟨85, _⟩ => ⟨S8x128, .f32⟩
  | .hbm, ⟨86, _⟩ => ⟨S8x128, .f32⟩
  | .hbm, ⟨87, _⟩ => ⟨S8x128, .f32⟩
  | .hbm, ⟨88, _⟩ => ⟨S_, .f32⟩
  | .hbm, ⟨89, _⟩ => ⟨S8, .f32⟩
  | .hbm, ⟨90, _⟩ => ⟨S8, .f32⟩
  | .hbm, ⟨91, _⟩ => ⟨S8, .f32⟩
  | .hbm, ⟨92, _⟩ => ⟨S8x128x1, .f32⟩
  | .hbm, ⟨93, _⟩ => ⟨S8x128x128, .f32⟩
  | .hbm, ⟨94, _⟩ => ⟨S8x128x1, .f32⟩
  | .hbm, ⟨95, _⟩ => ⟨S8x128x128, .f32⟩
  | .hbm, ⟨96, _⟩ => ⟨S8x1x1, .f32⟩
  | .hbm, ⟨97, _⟩ => ⟨S8x128x128, .f32⟩
  | .hbm, ⟨98, _⟩ => ⟨S8x1x128x128, .f32⟩
  | .hbm, ⟨99, _⟩ => ⟨S8x1x128x128, .f32⟩
  | .hbm, ⟨100, _⟩ => ⟨S8x1x128x128, .f32⟩
  | .hbm, ⟨101, _⟩ => ⟨S8x1x128x128, .f32⟩
  | .hbm, ⟨102, _⟩ => ⟨S8x4x128x128, .f32⟩
  | .hbm, ⟨103, _⟩ => ⟨S4x4096x1024, .bf16⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S2x4x128x128, .f32⟩
  | .local _ .vmem, ⟨13, _⟩ => ⟨S2x4x128x128, .f32⟩
  | .local _ .vmem, ⟨14, _⟩ => ⟨S1x512x256, .bf16⟩
  | .local _ .vmem, ⟨15, _⟩ => ⟨S1x512x256, .bf16⟩
  | .local _ .vmem, ⟨16, _⟩ => ⟨S2x128x128, .f32⟩
  | _, _ => ⟨S16384x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev main_v4 : Ref sig .tc := ⟨.hbm, 10, rfl⟩
abbrev main_cst_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_8 : Ref sig .tc := ⟨.hbm, 53, rfl⟩
abbrev main_v42 : Ref sig .tc := ⟨.hbm, 54, rfl⟩
abbrev main_v43 : Ref sig .tc := ⟨.hbm, 55, rfl⟩
abbrev main_cst_9 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_10 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_12 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_13 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S2x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S16384x6656 : Shape := ⟨2, ![16384, 6656]⟩
abbrev S4x4096x6656 : Shape := ⟨3, ![4, 4096, 6656]⟩
abbrev S4096 : Shape := ⟨1, ![4096]⟩
abbrev S4x4096x512 : Shape := ⟨3, ![4, 4096, 512]⟩
abbrev S4x4096x1024 : Shape := ⟨3, ![4, 4096, 1024]⟩
abbrev S4x4096x8x64 : Shape := ⟨4, ![4, 4096, 8, 64]⟩
abbrev S4x8x4096x64 : Shape := ⟨4, ![4, 8, 4096, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4x8x4096x32 : Shape := ⟨4, ![4, 8, 4096, 32]⟩
abbrev S1x1x4096x32 : Shape := ⟨4, ![1, 1, 4096, 32]⟩
abbrev S4x4096x8x128 : Shape := ⟨4, ![4, 4096, 8, 128]⟩
abbrev S4x8x4096x128 : Shape := ⟨4, ![4, 8, 4096, 128]⟩
abbrev S8 : Shape := ⟨1, ![8]⟩
abbrev S128 : Shape := ⟨1, ![128]⟩
abbrev S4x8x32x128x64 : Shape := ⟨5, ![4, 8, 32, 128, 64]⟩
abbrev S1x128 : Shape := ⟨2, ![1, 128]⟩
abbrev S8x1 : Shape := ⟨2, ![8, 1]⟩
abbrev S8x128 : Shape := ⟨2, ![8, 128]⟩
abbrev S1x8x1x128x1 : Shape := ⟨5, ![1, 8, 1, 128, 1]⟩
abbrev S4x8x32x128x128 : Shape := ⟨5, ![4, 8, 32, 128, 128]⟩
abbrev S4x8x32x64x128 : Shape := ⟨5, ![4, 8, 32, 64, 128]⟩
abbrev S1x8x1x1 : Shape := ⟨4, ![1, 8, 1, 1]⟩
abbrev S4x8x64x128 : Shape := ⟨4, ![4, 8, 64, 128]⟩
abbrev S32x4x8x64x128 : Shape := ⟨5, ![32, 4, 8, 64, 128]⟩
abbrev S1x4x8x64x128 : Shape := ⟨5, ![1, 4, 8, 64, 128]⟩
abbrev S128x1 : Shape := ⟨2, ![128, 1]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S1x8x1x128x128 : Shape := ⟨5, ![1, 8, 1, 128, 128]⟩
abbrev S4x8x4096 : Shape := ⟨3, ![4, 8, 4096]⟩
abbrev S4x8x4096x1 : Shape := ⟨4, ![4, 8, 4096, 1]⟩

abbrev nBuf : Space → Nat
  | .hbm => 320
  | .vmem => 0
  | .smem => 0
  | _ => 0

abbrev hbmTy0_0 (i : Nat) : BufTy := match i % 128 with
  | 0 => ⟨S16384x6656, .f32⟩
  | 1 => ⟨S4x4096x6656, .f32⟩
  | 2 => ⟨S4096, .i32⟩
  | 3 => ⟨S4x4096x512, .f32⟩
  | 4 => ⟨S4x4096x512, .f32⟩
  | 5 => ⟨S4x4096x1024, .f32⟩
  | 6 => ⟨S4x4096x8x64, .f32⟩
  | 7 => ⟨S4x8x4096x64, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S4096, .f32⟩
  | 17 => ⟨S4096x1, .f32⟩
  | 18 => ⟨S1x32, .f32⟩
  | 19 => ⟨S4096x32, .f32⟩
  | 20 => ⟨S4096x32, .f32⟩
  | 21 => ⟨S4096x32, .f32⟩
  | 22 => ⟨S4096x32, .f32⟩
  | 23 => ⟨S4096x32, .f32⟩
  | 24 => ⟨S4x8x4096x32, .f32⟩
  | 25 => ⟨S4x8x4096x32, .f32⟩
  | 26 => ⟨S1x1x4096x32, .f32⟩
  | 27 => ⟨S4x8x4096x32, .f32⟩
  | 28 => ⟨S4x8x4096x32, .f32⟩
  | 29 => ⟨S1x1x4096x32, .f32⟩
  | 30 => ⟨S4x8x4096x32, .f32⟩
  | 31 => ⟨S4x8x4096x32, .f32⟩
  | 32 => ⟨S4x8x4096x32, .f32⟩
  | 33 => ⟨S1x1x4096x32, .f32⟩
  | 34 => ⟨S4x8x4096x32, .f32⟩
  | 35 => ⟨S4x8x4096x32, .f32⟩
  | 36 => ⟨S1x1x4096x32, .f32⟩
  | 37 => ⟨S4x8x4096x32, .f32⟩
  | 38 => ⟨S4x8x4096x32, .f32⟩
  | 39 => ⟨S4x8x4096x32, .f32⟩
  | 40 => ⟨S4x8x4096x64, .f32⟩
  | 41 => ⟨S4x4096x8x64, .f32⟩
  | 42 => ⟨S4x8x4096x64, .f32⟩
  | 43 => ⟨S32, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S4096, .f32⟩
  | 52 => ⟨S4096x1, .f32⟩
  | 53 => ⟨S1x32, .f32⟩
  | 54 => ⟨S4096x32, .f32⟩
  | 55 => ⟨S4096x32, .f32⟩
  | 56 => ⟨S4096x32, .f32⟩
  | 57 => ⟨S4096x32, .f32⟩
  | 58 => ⟨S4096x32, .f32⟩
  | 59 => ⟨S4x8x4096x32, .f32⟩
  | 60 => ⟨S4x8x4096x32, .f32⟩
  | 61 => ⟨S1x1x4096x32, .f32⟩
  | 62 => ⟨S4x8x4096x32, .f32⟩
  | 63 => ⟨S4x8x4096x32, .f32⟩
  | 64 => ⟨S1x1x4096x32, .f32⟩
  | 65 => ⟨S4x8x4096x32, .f32⟩
  | 66 => ⟨S4x8x4096x32, .f32⟩
  | 67 => ⟨S4x8x4096x32, .f32⟩
  | 68 => ⟨S1x1x4096x32, .f32⟩
  | 69 => ⟨S4x8x4096x32, .f32⟩
  | 70 => ⟨S4x8x4096x32, .f32⟩
  | 71 => ⟨S1x1x4096x32, .f32⟩
  | 72 => ⟨S4x8x4096x32, .f32⟩
  | 73 => ⟨S4x8x4096x32, .f32⟩
  | 74 => ⟨S4x8x4096x32, .f32⟩
  | 75 => ⟨S4x8x4096x64, .f32⟩
  | 76 => ⟨S_, .f32⟩
  | 77 => ⟨S4x8x4096x64, .f32⟩
  | 78 => ⟨S4x8x4096x64, .f32⟩
  | 79 => ⟨S4x4096x8x128, .f32⟩
  | 80 => ⟨S4x8x4096x128, .f32⟩
  | 81 => ⟨S8, .f32⟩
  | 82 => ⟨S_, .f32⟩
  | 83 => ⟨S8, .f32⟩
  | 84 => ⟨S8, .f32⟩
  | 85 => ⟨S_, .f32⟩
  | 86 => ⟨S8, .f32⟩
  | 87 => ⟨S8, .f32⟩
  | 88 => ⟨S8, .f32⟩
  | 89 => ⟨S8, .f32⟩
  | 90 => ⟨S8, .f32⟩
  | 91 => ⟨S128, .f32⟩
  | 92 => ⟨S4x8x32x128x64, .f32⟩
  | 93 => ⟨S_, .f32⟩
  | 94 => ⟨S128, .f32⟩
  | 95 => ⟨S128, .f32⟩
  | 96 => ⟨S1x128, .f32⟩
  | 97 => ⟨S8x1, .f32⟩
  | 98 => ⟨S8x128, .f32⟩
  | 99 => ⟨S8x128, .f32⟩
  | 100 => ⟨S8x128, .f32⟩
  | 101 => ⟨S8x128, .f32⟩
  | 102 => ⟨S1x8x1x128x1, .f32⟩
  | 103 => ⟨S4x8x32x128x64, .f32⟩
  | 104 => ⟨S4x8x32x128x64, .f32⟩
  | 105 => ⟨S4x8x32x128x128, .f32⟩
  | 106 => ⟨S4x8x32x64x128, .f32⟩
  | 107 => ⟨S_, .f32⟩
  | 108 => ⟨S8, .f32⟩
  | 109 => ⟨S8, .f32⟩
  | 110 => ⟨S8, .f32⟩
  | 111 => ⟨S1x8x1x1, .f32⟩
  | 112 => ⟨S_, .f32⟩
  | 113 => ⟨S4x8x64x128, .f32⟩
  | 114 => ⟨S32x4x8x64x128, .f32⟩
  | 115 => ⟨S_, .f32⟩
  | 116 => ⟨S32x4x8x64x128, .f32⟩
  | 117 => ⟨S_, .i32⟩
  | 118 => ⟨S32x4x8x64x128, .f32⟩
  | 119 => ⟨S1x8x1x1, .f32⟩
  | 120 => ⟨S_, .i32⟩
  | 121 => ⟨S4x8x64x128, .f32⟩
  | 122 => ⟨S32x4x8x64x128, .f32⟩
  | 123 => ⟨S_, .i32⟩
  | 124 => ⟨S_, .i1⟩
  | 125 => ⟨S_, .i32⟩
  | 126 => ⟨S_, .i32⟩
  | 127 => ⟨S_, .i32⟩
  | _ => ⟨S16384x6656, .f32⟩

abbrev hbmTy0_1 (i : Nat) : BufTy := match i % 128 with
  | 0 => ⟨S_, .i32⟩
  | 1 => ⟨S1x4x8x64x128, .f32⟩
  | 2 => ⟨S4x8x64x128, .f32⟩
  | 3 => ⟨S4x8x64x128, .f32⟩
  | 4 => ⟨S4x8x64x128, .f32⟩
  | 5 => ⟨S4x8x64x128, .f32⟩
  | 6 => ⟨S1x4x8x64x128, .f32⟩
  | 7 => ⟨S_, .i32⟩
  | 8 => ⟨S_, .i32⟩
  | 9 => ⟨S_, .i32⟩
  | 10 => ⟨S_, .i32⟩
  | 11 => ⟨S32x4x8x64x128, .f32⟩
  | 12 => ⟨S_, .i32⟩
  | 13 => ⟨S_, .i32⟩
  | 14 => ⟨S4x4096x6656, .f32⟩
  | 15 => ⟨S4096, .i32⟩
  | 16 => ⟨S4x4096x512, .f32⟩
  | 17 => ⟨S4x4096x512, .f32⟩
  | 18 => ⟨S4x4096x1024, .f32⟩
  | 19 => ⟨S4x4096x8x64, .f32⟩
  | 20 => ⟨S4x8x4096x64, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S4096, .f32⟩
  | 30 => ⟨S4096x1, .f32⟩
  | 31 => ⟨S1x32, .f32⟩
  | 32 => ⟨S4096x32, .f32⟩
  | 33 => ⟨S4096x32, .f32⟩
  | 34 => ⟨S4096x32, .f32⟩
  | 35 => ⟨S4096x32, .f32⟩
  | 36 => ⟨S4096x32, .f32⟩
  | 37 => ⟨S4x8x4096x32, .f32⟩
  | 38 => ⟨S4x8x4096x32, .f32⟩
  | 39 => ⟨S1x1x4096x32, .f32⟩
  | 40 => ⟨S4x8x4096x32, .f32⟩
  | 41 => ⟨S4x8x4096x32, .f32⟩
  | 42 => ⟨S1x1x4096x32, .f32⟩
  | 43 => ⟨S4x8x4096x32, .f32⟩
  | 44 => ⟨S4x8x4096x32, .f32⟩
  | 45 => ⟨S4x8x4096x32, .f32⟩
  | 46 => ⟨S1x1x4096x32, .f32⟩
  | 47 => ⟨S4x8x4096x32, .f32⟩
  | 48 => ⟨S4x8x4096x32, .f32⟩
  | 49 => ⟨S1x1x4096x32, .f32⟩
  | 50 => ⟨S4x8x4096x32, .f32⟩
  | 51 => ⟨S4x8x4096x32, .f32⟩
  | 52 => ⟨S4x8x4096x32, .f32⟩
  | 53 => ⟨S4x8x4096x64, .f32⟩
  | 54 => ⟨S4x4096x8x64, .f32⟩
  | 55 => ⟨S4x8x4096x64, .f32⟩
  | 56 => ⟨S32, .f32⟩
  | 57 => ⟨S32, .f32⟩
  | 58 => ⟨S_, .f32⟩
  | 59 => ⟨S32, .f32⟩
  | 60 => ⟨S32, .f32⟩
  | 61 => ⟨S_, .f32⟩
  | 62 => ⟨S32, .f32⟩
  | 63 => ⟨S32, .f32⟩
  | 64 => ⟨S4096, .f32⟩
  | 65 => ⟨S4096x1, .f32⟩
  | 66 => ⟨S1x32, .f32⟩
  | 67 => ⟨S4096x32, .f32⟩
  | 68 => ⟨S4096x32, .f32⟩
  | 69 => ⟨S4096x32, .f32⟩
  | 70 => ⟨S4096x32, .f32⟩
  | 71 => ⟨S4096x32, .f32⟩
  | 72 => ⟨S4x8x4096x32, .f32⟩
  | 73 => ⟨S4x8x4096x32, .f32⟩
  | 74 => ⟨S1x1x4096x32, .f32⟩
  | 75 => ⟨S4x8x4096x32, .f32⟩
  | 76 => ⟨S4x8x4096x32, .f32⟩
  | 77 => ⟨S1x1x4096x32, .f32⟩
  | 78 => ⟨S4x8x4096x32, .f32⟩
  | 79 => ⟨S4x8x4096x32, .f32⟩
  | 80 => ⟨S4x8x4096x32, .f32⟩
  | 81 => ⟨S1x1x4096x32, .f32⟩
  | 82 => ⟨S4x8x4096x32, .f32⟩
  | 83 => ⟨S4x8x4096x32, .f32⟩
  | 84 => ⟨S1x1x4096x32, .f32⟩
  | 85 => ⟨S4x8x4096x32, .f32⟩
  | 86 => ⟨S4x8x4096x32, .f32⟩
  | 87 => ⟨S4x8x4096x32, .f32⟩
  | 88 => ⟨S4x8x4096x64, .f32⟩
  | 89 => ⟨S_, .f32⟩
  | 90 => ⟨S4x8x4096x64, .f32⟩
  | 91 => ⟨S4x8x4096x64, .f32⟩
  | 92 => ⟨S4x4096x8x128, .f32⟩
  | 93 => ⟨S4x8x4096x128, .f32⟩
  | 94 => ⟨S8, .f32⟩
  | 95 => ⟨S_, .f32⟩
  | 96 => ⟨S8, .f32⟩
  | 97 => ⟨S8, .f32⟩
  | 98 => ⟨S_, .f32⟩
  | 99 => ⟨S8, .f32⟩
  | 100 => ⟨S8, .f32⟩
  | 101 => ⟨S8, .f32⟩
  | 102 => ⟨S8, .f32⟩
  | 103 => ⟨S8, .f32⟩
  | 104 => ⟨S128, .f32⟩
  | 105 => ⟨S128x1, .f32⟩
  | 106 => ⟨S1x128, .f32⟩
  | 107 => ⟨S128x128, .f32⟩
  | 108 => ⟨S128x128, .f32⟩
  | 109 => ⟨S128x128, .f32⟩
  | 110 => ⟨S128, .i32⟩
  | 111 => ⟨S128x1, .i32⟩
  | 112 => ⟨S1x128, .i32⟩
  | 113 => ⟨S128x128, .i32⟩
  | 114 => ⟨S128x128, .i32⟩
  | 115 => ⟨S128x128, .i1⟩
  | 116 => ⟨S1x128x128, .i1⟩
  | 117 => ⟨S_, .f32⟩
  | 118 => ⟨S128x128, .f32⟩
  | 119 => ⟨S128x128, .f32⟩
  | 120 => ⟨S1x128x128, .f32⟩
  | 121 => ⟨S8x1x1, .f32⟩
  | 122 => ⟨S8x128x128, .f32⟩
  | 123 => ⟨S8x128x128, .f32⟩
  | 124 => ⟨S8x128x128, .f32⟩
  | 125 => ⟨S8x128x128, .f32⟩
  | 126 => ⟨S_, .f32⟩
  | 127 => ⟨S_, .f32⟩
  | _ => ⟨S16384x6656, .f32⟩

abbrev hbmTy0_2 (i : Nat) : BufTy := match i % 128 with
  | 0 => ⟨S8x128x128, .i1⟩
  | 1 => ⟨S8x128x128, .f32⟩
  | 2 => ⟨S8x128x128, .f32⟩
  | 3 => ⟨S4x8x32x128x64, .f32⟩
  | 4 => ⟨S4x8x32x128x64, .f32⟩
  | 5 => ⟨S4x8x32x128x128, .f32⟩
  | 6 => ⟨S4x8x32x128x128, .f32⟩
  | 7 => ⟨S1x8x1x128x128, .f32⟩
  | 8 => ⟨S4x8x32x128x128, .f32⟩
  | 9 => ⟨S4x8x32x128x128, .f32⟩
  | 10 => ⟨S4x8x32x128x128, .f32⟩
  | 11 => ⟨S4x8x32x64x128, .f32⟩
  | 12 => ⟨S_, .f32⟩
  | 13 => ⟨S128, .f32⟩
  | 14 => ⟨S128, .f32⟩
  | 15 => ⟨S1x128, .f32⟩
  | 16 => ⟨S8x1, .f32⟩
  | 17 => ⟨S8x128, .f32⟩
  | 18 => ⟨S8x128, .f32⟩
  | 19 => ⟨S8x128, .f32⟩
  | 20 => ⟨S8x128, .f32⟩
  | 21 => ⟨S4x8x32x128x128, .f32⟩
  | 22 => ⟨S1x8x1x128x1, .f32⟩
  | 23 => ⟨S4x8x32x128x128, .f32⟩
  | 24 => ⟨S4x8x32x128x128, .f32⟩
  | 25 => ⟨S4x8x32x128x128, .f32⟩
  | 26 => ⟨S4x8x4096x128, .f32⟩
  | 27 => ⟨S_, .f32⟩
  | 28 => ⟨S4x8x4096, .f32⟩
  | 29 => ⟨S4x8x4096x1, .f32⟩
  | 30 => ⟨S_, .f32⟩
  | 31 => ⟨S4x8x4096x1, .f32⟩
  | 32 => ⟨S4x8x4096x1, .f32⟩
  | 33 => ⟨S4x8x4096x128, .f32⟩
  | 34 => ⟨S4x8x4096x128, .f32⟩
  | 35 => ⟨S4x8x4096x128, .f32⟩
  | 36 => ⟨S_, .f32⟩
  | 37 => ⟨S4x8x4096, .f32⟩
  | 38 => ⟨S4x8x4096x1, .f32⟩
  | 39 => ⟨S_, .f32⟩
  | 40 => ⟨S4x8x4096x1, .f32⟩
  | 41 => ⟨S4x8x4096x1, .f32⟩
  | 42 => ⟨S4x8x4096x128, .f32⟩
  | 43 => ⟨S4x8x4096x128, .f32⟩
  | 44 => ⟨S_, .f32⟩
  | 45 => ⟨S4x8x4096x1, .f32⟩
  | 46 => ⟨S4x8x4096x1, .f32⟩
  | 47 => ⟨S4x8x4096x1, .f32⟩
  | 48 => ⟨S4x8x4096x128, .f32⟩
  | 49 => ⟨S4x8x4096x128, .f32⟩
  | 50 => ⟨S4x4096x8x128, .f32⟩
  | 51 => ⟨S4x4096x1024, .f32⟩
  | 52 => ⟨S4x4096x1024, .f32⟩
  | 53 => ⟨S4x4096x1024, .f32⟩
  | 54 => ⟨S4x4096x1024, .f32⟩
  | 55 => ⟨S_, .f32⟩
  | 56 => ⟨S4x4096x1024, .f32⟩
  | 57 => ⟨S4x4096x1024, .f32⟩
  | 58 => ⟨S_, .f32⟩
  | 59 => ⟨S4x4096x1024, .f32⟩
  | 60 => ⟨S4x4096x1024, .f32⟩
  | 61 => ⟨S4x4096x1024, .f32⟩
  | 62 => ⟨S4x4096x1024, .f32⟩
  | 63 => ⟨S4x4096x1024, .bf16⟩
  | _ => ⟨S16384x6656, .f32⟩

abbrev hbmTy (i : Nat) : BufTy := match i / 128 with
  | 0 => hbmTy0_0 i
  | 1 => hbmTy0_1 i
  | 2 => hbmTy0_2 i
  | _ => ⟨S16384x6656, .f32⟩

abbrev bufTy : (tb : Table) → Fin (tcTables nBuf tb) → BufTy
  | .hbm, ⟨i, _⟩ => hbmTy i
  | _, _ => ⟨S16384x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_cst_1 : Ref sig .tc := ⟨.hbm, 45, rfl⟩
abbrev main_v42 : Ref sig .tc := ⟨.hbm, 46, rfl⟩
abbrev main_v43 : Ref sig .tc := ⟨.hbm, 47, rfl⟩
abbrev main_cst_2 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_cst_3 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_cst_4 : Ref sig .tc := ⟨.hbm, 82, rfl⟩
abbrev main_v76 : Ref sig .tc := ⟨.hbm, 83, rfl⟩
abbrev main_v77 : Ref sig .tc := ⟨.hbm, 84, rfl⟩
abbrev main_cst_5 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_cst_6 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_cst_7 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_cst_8 : Ref sig .tc := ⟨.hbm, 112, rfl⟩
abbrev main_v102 : Ref sig .tc := ⟨.hbm, 113, rfl⟩
abbrev main_v103 : Ref sig .tc := ⟨.hbm, 114, rfl⟩
abbrev main_cst_9 : Ref sig .tc := ⟨.hbm, 115, rfl⟩
abbrev main_v104 : Ref sig .tc := ⟨.hbm, 116, rfl⟩
abbrev main_c : Ref sig .tc := ⟨.hbm, 117, rfl⟩
abbrev main_v105_0 : Ref sig .tc := ⟨.hbm, 118, rfl⟩
abbrev main_v105_1 : Ref sig .tc := ⟨.hbm, 119, rfl⟩
abbrev main_v105_2 : Ref sig .tc := ⟨.hbm, 120, rfl⟩
abbrev main_v105_3 : Ref sig .tc := ⟨.hbm, 121, rfl⟩
abbrev main_v105_4 : Ref sig .tc := ⟨.hbm, 122, rfl⟩
abbrev main_while0c_c_29 : Ref sig .tc := ⟨.hbm, 123, rfl⟩
abbrev main_while0c_v258 : Ref sig .tc := ⟨.hbm, 124, rfl⟩
abbrev main_while0b_call0_c : Ref sig .tc := ⟨.hbm, 125, rfl⟩
abbrev main_while0b_call0_c_0 : Ref sig .tc := ⟨.hbm, 126, rfl⟩
abbrev main_while0b_call0_c_1 : Ref sig .tc := ⟨.hbm, 127, rfl⟩
abbrev main_while0b_call0_c_2 : Ref sig .tc := ⟨.hbm, 128, rfl⟩
abbrev main_while0b_call0_v0 : Ref sig .tc := ⟨.hbm, 129, rfl⟩
abbrev main_while0b_v258 : Ref sig .tc := ⟨.hbm, 130, rfl⟩
abbrev main_while0b_v259 : Ref sig .tc := ⟨.hbm, 131, rfl⟩
abbrev main_while0b_v260 : Ref sig .tc := ⟨.hbm, 132, rfl⟩
abbrev main_while0b_v261 : Ref sig .tc := ⟨.hbm, 133, rfl⟩
abbrev main_while0b_call1_v0 : Ref sig .tc := ⟨.hbm, 134, rfl⟩
abbrev main_while0b_call1_c : Ref sig .tc := ⟨.hbm, 135, rfl⟩
abbrev main_while0b_call1_c_0 : Ref sig .tc := ⟨.hbm, 136, rfl⟩
abbrev main_while0b_call1_c_1 : Ref sig .tc := ⟨.hbm, 137, rfl⟩
abbrev main_while0b_call1_c_2 : Ref sig .tc := ⟨.hbm, 138, rfl⟩
abbrev main_while0b_v262 : Ref sig .tc := ⟨.hbm, 139, rfl⟩
abbrev main_while0b_c_29 : Ref sig .tc := ⟨.hbm, 140, rfl⟩
abbrev main_while0b_v263 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_10 : Ref sig .tc := ⟨.hbm, 151, rfl⟩
abbrev main_v115 : Ref sig .tc := ⟨.hbm, 152, rfl⟩
abbrev main_v116 : Ref sig .tc := ⟨.hbm, 153, rfl⟩
abbrev main_cst_11 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_cst_12 : Ref sig .tc := ⟨.hbm, 186, rfl⟩
abbrev main_v148 : Ref sig .tc := ⟨.hbm, 187, rfl⟩
abbrev main_v149 : Ref sig .tc := ⟨.hbm, 188, rfl⟩
abbrev main_cst_13 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_cst_14 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_cst_15 : Ref sig .tc := ⟨.hbm, 223, rfl⟩
abbrev main_v182 : Ref sig .tc := ⟨.hbm, 224, rfl⟩
abbrev main_v183 : Ref sig .tc := ⟨.hbm, 225, rfl⟩
abbrev main_cst_16 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_cst_17 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_cst_18 : Ref sig .tc := ⟨.hbm, 254, rfl⟩
abbrev main_call2_v0 : Ref sig .tc := ⟨.hbm, 255, rfl⟩
abbrev main_call2_v1 : Ref sig .tc := ⟨.hbm, 256, rfl⟩
abbrev main_call2_v2 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_cst_19 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_cst_20 : Ref sig .tc := ⟨.hbm, 283, rfl⟩
abbrev main_v234 : Ref sig .tc := ⟨.hbm, 284, rfl⟩
abbrev main_v235 : Ref sig .tc := ⟨.hbm, 285, rfl⟩
abbrev main_cst_21 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_v240 : Ref sig .tc := ⟨.hbm, 291, rfl⟩
abbrev main_cst_22 : Ref sig .tc := ⟨.hbm, 292, rfl⟩
abbrev main_v241 : Ref sig .tc := ⟨.hbm, 293, rfl⟩
abbrev main_v242 : Ref sig .tc := ⟨.hbm, 294, rfl⟩
abbrev main_cst_23 : Ref sig .tc := ⟨.hbm, 295, rfl⟩
abbrev main_v243 : Ref sig .tc := ⟨.hbm, 296, rfl⟩
abbrev main_v244 : Ref sig .tc := ⟨.hbm, 297, rfl⟩
abbrev main_v245 : Ref sig .tc := ⟨.hbm, 298, rfl⟩
abbrev main_v246 : Ref sig .tc := ⟨.hbm, 299, rfl⟩
abbrev main_cst_24 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_call3_v0 : Ref sig .tc := ⟨.hbm, 309, rfl⟩
abbrev main_call3_v1 : Ref sig .tc := ⟨.hbm, 310, rfl⟩
abbrev main_call3_cst : Ref sig .tc := ⟨.hbm, 311, rfl⟩
abbrev main_call3_v2 : Ref sig .tc := ⟨.hbm, 312, rfl⟩
abbrev main_call3_v3 : Ref sig .tc := ⟨.hbm, 313, rfl⟩
abbrev main_call3_cst_0 : Ref sig .tc := ⟨.hbm, 314, rfl⟩
abbrev main_call3_v4 : Ref sig .tc := ⟨.hbm, 315, rfl⟩
abbrev main_call3_v5 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S4x4096x1024 : Shape := ⟨3, ![4, 4096, 1024]⟩
abbrev S1x1024 : Shape := ⟨2, ![1, 1024]⟩
abbrev S1x1024x6656 : Shape := ⟨3, ![1, 1024, 6656]⟩
abbrev S16384x1024 : Shape := ⟨2, ![16384, 1024]⟩
abbrev S1024x6656 : Shape := ⟨2, ![1024, 6656]⟩
abbrev S1024x3072 : Shape := ⟨2, ![1024, 3072]⟩
abbrev S1024x2048 : Shape := ⟨2, ![1024, 2048]⟩
abbrev S1024x1536 : Shape := ⟨2, ![1024, 1536]⟩
abbrev S1024 : Shape := ⟨1, ![1024]⟩
abbrev S16384x6656 : Shape := ⟨2, ![16384, 6656]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x6656, .f32⟩
  | .hbm, ⟨3, _⟩ => ⟨S16384x1024, .f32⟩
  | .hbm, ⟨4, _⟩ => ⟨S1024x6656, .f32⟩
  | .hbm, ⟨5, _⟩ => ⟨S1024x3072, .f32⟩
  | .hbm, ⟨6, _⟩ => ⟨S1024x2048, .f32⟩
  | .hbm, ⟨7, _⟩ => ⟨S1024x1536, .f32⟩
  | .hbm, ⟨8, _⟩ => ⟨S1024x6656, .f32⟩
  | .hbm, ⟨9, _⟩ => ⟨S1024x6656, .bf16⟩
  | .hbm, ⟨10, _⟩ => ⟨S1024, .f32⟩
  | .hbm, ⟨11, _⟩ => ⟨S1x1024, .f32⟩
  | .hbm, ⟨12, _⟩ => ⟨S16384x6656, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x512, .f32⟩
  | .local _ .vmem, ⟨6, _⟩ => ⟨S512x512, .f32⟩
  | .local _ .vmem, ⟨7, _⟩ => ⟨S512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x4096x1024 : Shape := ⟨3, ![4, 4096, 1024]⟩
abbrev S1x1024 : Shape := ⟨2, ![1, 1024]⟩
abbrev S1x1024x6656 : Shape := ⟨3, ![1, 1024, 6656]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x6656 : Shape := ⟨2, ![1024, 6656]⟩
abbrev S4x4096x6656 : Shape := ⟨3, ![4, 4096, 6656]⟩
abbrev S4x4096x512 : Shape := ⟨3, ![4, 4096, 512]⟩
abbrev S16384x6656 : Shape := ⟨2, ![16384, 6656]⟩

abbrev nBuf : Space → Nat
  | .hbm => 33
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x6656, .f32⟩
  | .hbm, ⟨3, _⟩ => ⟨S1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S1024x6656, .f32⟩
  | .hbm, ⟨21, _⟩ => ⟨S4x4096x6656, .f32⟩
  | .hbm, ⟨22, _⟩ => ⟨S4x4096x512, .f32⟩
  | .hbm, ⟨23, _⟩ => ⟨S4x4096x512, .f32⟩
  | .hbm, ⟨24, _⟩ => ⟨S4x4096x1024, .f32⟩
  | .hbm, ⟨25, _⟩ => ⟨S4x4096x1024, .f32⟩
  | .hbm, ⟨26, _⟩ => ⟨S4x4096x512, .f32⟩
  | .hbm, ⟨27, _⟩ => ⟨S4x4096x512, .f32⟩
  | .hbm, ⟨28, _⟩ => ⟨S4x4096x512, .f32⟩
  | .hbm, ⟨29, _⟩ => ⟨S4x4096x1024, .f32⟩
  | .hbm, ⟨30, _⟩ => ⟨S4x4096x1024, .f32⟩
  | .hbm, ⟨31, _⟩ => ⟨S4x4096x6656, .f32⟩
  | .hbm, ⟨32, _⟩ => ⟨S16384x6656, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x512 : Shape := ⟨3, ![4, 4096, 512]⟩
abbrev S16384x6656 : Shape := ⟨2, ![16384, 6656]⟩
abbrev S1x1024x1024 : Shape := ⟨3, ![1, 1024, 1024]⟩
abbrev S1x512x1024 : Shape := ⟨3, ![1, 512, 1024]⟩
abbrev S1x1024 : Shape := ⟨2, ![1, 1024]⟩
abbrev S1x1024x2048 : Shape := ⟨3, ![1, 1024, 2048]⟩
abbrev S1x8x2x128x128 : Shape := ⟨5, ![1, 8, 2, 128, 128]⟩
abbrev S16384x1024 : Shape := ⟨2, ![16384, 1024]⟩
abbrev S16384x512 : Shape := ⟨2, ![16384, 512]⟩
abbrev S8x2x128x128 : Shape := ⟨4, ![8, 2, 128, 128]⟩
abbrev S16x128x128 : Shape := ⟨3, ![16, 128, 128]⟩
abbrev S1024x1024 : Shape := ⟨2, ![1024, 1024]⟩
abbrev S512x1024 : Shape := ⟨2, ![512, 1024]⟩
abbrev S1024 : Shape := ⟨1, ![1024]⟩
abbrev S1024x2048 : Shape := ⟨2, ![1024, 2048]⟩
abbrev S2048x16384 : Shape := ⟨2, ![2048, 16384]⟩
abbrev S256x1024 : Shape := ⟨2, ![256, 1024]⟩
abbrev S256x512 : Shape := ⟨2, ![256, 512]⟩
abbrev S2048x256 : Shape := ⟨2, ![2048, 256]⟩
abbrev S256 : Shape := ⟨1, ![256]⟩
abbrev S256x1 : Shape := ⟨2, ![256, 1]⟩
abbrev S256x2048 : Shape := ⟨2, ![256, 2048]⟩
abbrev S256x128 : Shape := ⟨2, ![256, 128]⟩
abbrev S1x128x128 : Shape := ⟨3, ![1, 128, 128]⟩
abbrev S128x128 : Shape := ⟨2, ![128, 128]⟩
abbrev S128x256 : Shape := ⟨2, ![128, 256]⟩

abbrev nBuf : Space → Nat
  | .hbm => 29
  | .vmem => 22
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x512, .bf16⟩
  | .hbm, ⟨2, _⟩ => ⟨S16384x6656, .f32⟩
  | .hbm, ⟨3, _⟩ => ⟨S4x4096x1024, .f32⟩
  | .hbm, ⟨4, _⟩ => ⟨S1x1024x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x2048, .f32⟩
  | .hbm, ⟨9, _⟩ => ⟨S1x8x2x128x128, .f32⟩
  | .hbm, ⟨10, _⟩ => ⟨S16384x1024, .f32⟩
  | .hbm, ⟨11, _⟩ => ⟨S16384x1024, .bf16⟩
  | .hbm, ⟨12, _⟩ => ⟨S16384x512, .bf16⟩
  | .hbm, ⟨13, _⟩ => ⟨S8x2x128x128, .f32⟩
  | .hbm, ⟨14, _⟩ => ⟨S16x128x128, .f32⟩
  | .hbm, ⟨15, _⟩ => ⟨S16x128x128, .bf16⟩
  | .hbm, ⟨16, _⟩ => ⟨S1024x1024, .f32⟩
  | .hbm, ⟨17, _⟩ => ⟨S1024x1024, .bf16⟩
  | .hbm, ⟨18, _⟩ => ⟨S512x1024, .f32⟩
  | .hbm, ⟨19, _⟩ => ⟨S512x1024, .bf16⟩
  | .hbm, ⟨20, _⟩ => ⟨S1024x1024, .f32⟩
  | .hbm, ⟨21, _⟩ => ⟨S1024x1024, .bf16⟩
  | .hbm, ⟨22, _⟩ => ⟨S1024, .f32⟩
  | .hbm, ⟨23, _⟩ => ⟨S1x1024, .f32⟩
  | .hbm, ⟨24, _⟩ => ⟨S1024x2048, .f32⟩
  | .hbm, ⟨25, _⟩ => ⟨S1024x2048, .bf16⟩
  | .hbm, ⟨26, _⟩ => ⟨S16384x1024, .f32⟩
  | .hbm, ⟨27, _⟩ => ⟨S16384x1024, .bf16⟩
  | .hbm, ⟨28, _⟩ => ⟨S2048x16384, .f32⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x2048, .bf16⟩
  | .local _ .vmem, ⟨15, _⟩ => ⟨S16x128x128, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S2048x256, .f32⟩
  | .local _ .vmem, ⟨21, _⟩ => ⟨S2048x256, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S4x4096x1024 : Shape := ⟨3, ![4, 4096, 1024]⟩
abbrev S4x4096x512 : Shape := ⟨3, ![4, 4096, 512]⟩
abbrev S16384x6656 : Shape := ⟨2, ![16384, 6656]⟩
abbrev S1x1024x1024 : Shape := ⟨3, ![1, 1024, 1024]⟩
abbrev S1x512x1024 : Shape := ⟨3, ![1, 512, 1024]⟩
abbrev S1x1024 : Shape := ⟨2, ![1, 1024]⟩
abbrev S1x1024x2048 : Shape := ⟨3, ![1, 1024, 2048]⟩
abbrev S1x8x2x128x128 : Shape := ⟨5, ![1, 8, 2, 128, 128]⟩
abbrev S4x4096x6656 : Shape := ⟨3, ![4, 4096, 6656]⟩
abbrev S1024x1024 : Shape := ⟨2, ![1024, 1024]⟩
abbrev S512x1024 : Shape := ⟨2, ![512, 1024]⟩
abbrev S_ : Shape := ⟨0, ![]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩
abbrev S1024x2048 : Shape := ⟨2, ![1024, 2048]⟩
abbrev S16384x2048 : Shape := ⟨2, ![16384, 2048]⟩
abbrev S16384x8x2x128 : Shape := ⟨4, ![16384, 8, 2, 128]⟩
abbrev S8x2x128x128 : Shape := ⟨4, ![8, 2, 128, 128]⟩
abbrev S8x2x128x16384 : Shape := ⟨4, ![8, 2, 128, 16384]⟩
abbrev S2048x16384 : Shape := ⟨2, ![2048, 16384]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x512, .bf16⟩
  | .hbm, ⟨2, _⟩ => ⟨S16384x6656, .f32⟩
  | .hbm, ⟨3, _⟩ => ⟨S4x4096x1024, .f32⟩
  | .hbm, ⟨4, _⟩ => ⟨S1x1024x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x2048, .f32⟩
  | .hbm, ⟨9, _⟩ => ⟨S1x8x2x128x128, .f32⟩
  | .hbm, ⟨10, _⟩ => ⟨S4x4096x6656, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S1024x1024, .f32⟩
  | .hbm, ⟨15, _⟩ => ⟨S4x4096x1024, .f32⟩
  | .hbm, ⟨16, _⟩ => ⟨S4x4096x512, .f32⟩
  | .hbm, ⟨17, _⟩ => ⟨S512x1024, .f32⟩
  | .hbm, ⟨18, _⟩ => ⟨S4x4096x1024, .f32⟩
  | .hbm, ⟨19, _⟩ => ⟨S4x4096x1024, .f32⟩
  | .hbm, ⟨20, _⟩ => ⟨S4x4096x1024, .f32⟩
  | .hbm, ⟨21, _⟩ => ⟨S_, .f32⟩
  | .hbm, ⟨22, _⟩ => ⟨S4x4096x1024, .f32⟩
  | .hbm, ⟨23, _⟩ => ⟨S4x4096x1024, .f32⟩
  | .hbm, ⟨24, _⟩ => ⟨S_, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S_, .f32⟩
  | .hbm, ⟨31, _⟩ => ⟨S4x4096x1024, .f32⟩
  | .hbm, ⟨32, _⟩ => ⟨S4x4096x1024, .f32⟩
  | .hbm, ⟨33, _⟩ => ⟨S_, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S1024x1024, .f32⟩
  | .hbm, ⟨39, _⟩ => ⟨S4x4096x1024, .f32⟩
  | .hbm, ⟨40, _⟩ => ⟨S4x4096x1024, .f32⟩
  | .hbm, ⟨41, _⟩ => ⟨S1024, .f32⟩
  | .hbm, ⟨42, _⟩ => ⟨S4x4096x1024, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S_, .f32⟩
  | .hbm, ⟨47, _⟩ => ⟨S4x4096x1, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x4096x1, .f32⟩
  | .hbm, ⟨53, _⟩ => ⟨S4x4096x1024, .f32⟩
  | .hbm, ⟨54, _⟩ => ⟨S4x4096x1024, .f32⟩
  | .hbm, ⟨55, _⟩ => ⟨S1x1x1024, .f32⟩
  | .hbm, ⟨56, _⟩ => ⟨S4x4096x1024, .f32⟩
  | .hbm, ⟨57, _⟩ => ⟨S4x4096x1024, .f32⟩
  | .hbm, ⟨58, _⟩ => ⟨S16384x1024, .f32⟩
  | .hbm, ⟨59, _⟩ => ⟨S1024x2048, .f32⟩
  | .hbm, ⟨60, _⟩ => ⟨S16384x2048, .f32⟩
  | .hbm, ⟨61, _⟩ => ⟨S16384x8x2x128, .f32⟩
  | .hbm, ⟨62, _⟩ => ⟨S8x2x128x128, .f32⟩
  | .hbm, ⟨63, _⟩ => ⟨S8x2x128x16384, .f32⟩
  | .hbm, ⟨64, _⟩ => ⟨S16384x8x2x128, .f32⟩
  | .hbm, ⟨65, _⟩ => ⟨S16384x1024, .f32⟩
  | .hbm, ⟨66, _⟩ => ⟨S16384x1024, .bf16⟩
  | .hbm, ⟨67, _⟩ => ⟨S16384x2048, .f32⟩
  | .hbm, ⟨68, _⟩ => ⟨S2048x16384, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== Kernel4.lean ====
abbrev S16384x1024 : Shape := ⟨2, ![16384, 1024]⟩
abbrev S2048x16384 : Shape := ⟨2, ![2048, 16384]⟩
abbrev S32x16384 : Shape := ⟨2, ![32, 16384]⟩
abbrev S1x16384x1024 : Shape := ⟨3, ![1, 16384, 1024]⟩
abbrev S1024x16384 : Shape := ⟨2, ![1024, 16384]⟩
abbrev S1024x512 : Shape := ⟨2, ![1024, 512]⟩
abbrev S2048x512 : Shape := ⟨2, ![2048, 512]⟩
abbrev S32x512 : Shape := ⟨2, ![32, 512]⟩
abbrev S1024x1024 : Shape := ⟨2, ![1024, 1024]⟩
abbrev S512x1024 : Shape := ⟨2, ![512, 1024]⟩
abbrev S8x128x512 : Shape := ⟨3, ![8, 128, 512]⟩
abbrev S128x512 : Shape := ⟨2, ![128, 512]⟩
abbrev S1x512 : Shape := ⟨2, ![1, 512]⟩
abbrev S1x128x512 : Shape := ⟨3, ![1, 128, 512]⟩

abbrev nBuf : Space → Nat
  | .hbm => 13
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S2048x16384, .f32⟩
  | .hbm, ⟨2, _⟩ => ⟨S32x16384, .f32⟩
  | .hbm, ⟨3, _⟩ => ⟨S1x16384x1024, .f32⟩
  | .hbm, ⟨4, _⟩ => ⟨S1x16384x1024, .f32⟩
  | .hbm, ⟨5, _⟩ => ⟨S16384x1024, .f32⟩
  | .hbm, ⟨6, _⟩ => ⟨S1024x16384, .bf16⟩
  | .hbm, ⟨7, _⟩ => ⟨S16384x1024, .f32⟩
  | .hbm, ⟨8, _⟩ => ⟨S16384x1024, .bf16⟩
  | .hbm, ⟨9, _⟩ => ⟨S16384x1024, .f32⟩
  | .hbm, ⟨10, _⟩ => ⟨S16384x1024, .bf16⟩
  | .hbm, ⟨11, _⟩ => ⟨S1024x16384, .bf16⟩
  | .hbm, ⟨12, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S2048x512, .f32⟩
  | .local _ .vmem, ⟨3, _⟩ => ⟨S2048x512, .f32⟩
  | .local _ .vmem, ⟨4, _⟩ => ⟨S32x512, .f32⟩
  | .local _ .vmem, ⟨5, _⟩ => ⟨S32x512, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1024x512, .f32⟩
  | .local _ .vmem, ⟨15, _⟩ => ⟨S8x128x512, .f32⟩
  | .local _ .vmem, ⟨16, _⟩ => ⟨S1024x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 16], ![false, false]⟩

def k0_off1 (i : grid0.Coords) (c0_i32_9 : BitVec 32) (c0_i32_7 : BitVec 32) : Fin 2 → Nat :=
  let arg1 : BitVec 32 := BitVec.ofNat 32 (i 1).val
  let c8_i32 : BitVec 32 := 8#32
  let v16 : BitVec 32 := Scalar.muli arg1 c8_i32
  let v17 : BitVec 32 := Scalar.addi v16 c0_i32_7
  let v19 : BitVec 32 := Scalar.addi c0_i32_9 v17
  let v20 : Index := Scalar.indexCast v19
  let c0_10 : Index := 0#32
  ![v20.toNat, 0]
def k0_cond2 (i : grid0.Coords) : BitVec 1 :=
  let arg1 : BitVec 32 := BitVec.ofNat 32 (i 1).val
  let c15_i32 : BitVec 32 := 15#32
  let v1441 : BitVec 1 := Scalar.cmpi .eq arg1 c15_i32
  let v1442 : BitVec 32 := Scalar.extui v1441
  let c0_i32_903 : BitVec 32 := 0#32
  let v1443 : BitVec 1 := Scalar.cmpi .ne v1442 c0_i32_903
  v1443

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S16384x1024 : Shape := ⟨2, ![16384, 1024]⟩
abbrev S2048x16384 : Shape := ⟨2, ![2048, 16384]⟩
abbrev S32x16384 : Shape := ⟨2, ![32, 16384]⟩
abbrev S1x16384x1024 : Shape := ⟨3, ![1, 16384, 1024]⟩
abbrev S16384x2048 : Shape := ⟨2, ![16384, 2048]⟩
abbrev S16384x8x2x128 : Shape := ⟨4, ![16384, 8, 2, 128]⟩
abbrev S8x16384 : Shape := ⟨2, ![8, 16384]⟩
abbrev S16384x8 : Shape := ⟨2, ![16384, 8]⟩
abbrev S16384x8x1x128 : Shape := ⟨4, ![16384, 8, 1, 128]⟩
abbrev S16384x8x128 : Shape := ⟨3, ![16384, 8, 128]⟩
abbrev S16384x8x128x1 : Shape := ⟨4, ![16384, 8, 128, 1]⟩
abbrev S16384x8x128x128 : Shape := ⟨4, ![16384, 8, 128, 128]⟩
abbrev S16384x8x1 : Shape := ⟨3, ![16384, 8, 1]⟩
abbrev S16384x8x1x1 : Shape := ⟨4, ![16384, 8, 1, 1]⟩
abbrev S_ : Shape := ⟨0, ![]⟩
abbrev S16384x128x128 : Shape := ⟨3, ![16384, 128, 128]⟩
abbrev S16384x16384 : Shape := ⟨2, ![16384, 16384]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2048x16384, .f32⟩
  | .hbm, ⟨2, _⟩ => ⟨S32x16384, .f32⟩
  | .hbm, ⟨3, _⟩ => ⟨S1x16384x1024, .f32⟩
  | .hbm, ⟨4, _⟩ => ⟨S1x16384x1024, .f32⟩
  | .hbm, ⟨5, _⟩ => ⟨S16384x1024, .f32⟩
  | .hbm, ⟨6, _⟩ => ⟨S16384x2048, .f32⟩
  | .hbm, ⟨7, _⟩ => ⟨S16384x8x2x128, .f32⟩
  | .hbm, ⟨8, _⟩ => ⟨S8x16384, .f32⟩
  | .hbm, ⟨9, _⟩ => ⟨S8x16384, .f32⟩
  | .hbm, ⟨10, _⟩ => ⟨S8x16384, .f32⟩
  | .hbm, ⟨11, _⟩ => ⟨S8x16384, .f32⟩
  | .hbm, ⟨12, _⟩ => ⟨S16384x8, .f32⟩
  | .hbm, ⟨13, _⟩ => ⟨S16384x8, .f32⟩
  | .hbm, ⟨14, _⟩ => ⟨S16384x8, .f32⟩
  | .hbm, ⟨15, _⟩ => ⟨S16384x8, .f32⟩
  | .hbm, ⟨16, _⟩ => ⟨S16384x8x1x128, .f32⟩
  | .hbm, ⟨17, _⟩ => ⟨S16384x8x128, .f32⟩
  | .hbm, ⟨18, _⟩ => ⟨S16384x8x128x1, .f32⟩
  | .hbm, ⟨19, _⟩ => ⟨S16384x8x1x128, .f32⟩
  | .hbm, ⟨20, _⟩ => ⟨S16384x8x128, .f32⟩
  | .hbm, ⟨21, _⟩ => ⟨S16384x8x1x128, .f32⟩
  | .hbm, ⟨22, _⟩ => ⟨S16384x8x128x128, .f32⟩
  | .hbm, ⟨23, _⟩ => ⟨S16384x8x128x128, .f32⟩
  | .hbm, ⟨24, _⟩ => ⟨S16384x8x128x128, .f32⟩
  | .hbm, ⟨25, _⟩ => ⟨S16384x8x1x128, .f32⟩
  | .hbm, ⟨26, _⟩ => ⟨S16384x8x128, .f32⟩
  | .hbm, ⟨27, _⟩ => ⟨S16384x8x1, .f32⟩
  | .hbm, ⟨28, _⟩ => ⟨S16384x8x128, .f32⟩
  | .hbm, ⟨29, _⟩ => ⟨S16384x8x128, .f32⟩
  | .hbm, ⟨30, _⟩ => ⟨S16384x8x1x128, .f32⟩
  | .hbm, ⟨31, _⟩ => ⟨S16384x8x128, .f32⟩
  | .hbm, ⟨32, _⟩ => ⟨S16384x8x1, .f32⟩
  | .hbm, ⟨33, _⟩ => ⟨S16384x8x128, .f32⟩
  | .hbm, ⟨34, _⟩ => ⟨S16384x8x128, .f32⟩
  | .hbm, ⟨35, _⟩ => ⟨S16384x8x128x1, .f32⟩
  | .hbm, ⟨36, _⟩ => ⟨S16384x8x1x128, .f32⟩
  | .hbm, ⟨37, _⟩ => ⟨S16384x8x128x128, .f32⟩
  | .hbm, ⟨38, _⟩ => ⟨S16384x8x128x128, .f32⟩
  | .hbm, ⟨39, _⟩ => ⟨S16384x8x128x128, .f32⟩
  | .hbm, ⟨40, _⟩ => ⟨S16384x8x128x128, .f32⟩
  | .hbm, ⟨41, _⟩ => ⟨S16384x8x1x1, .f32⟩
  | .hbm, ⟨42, _⟩ => ⟨S16384x8x128x128, .f32⟩
  | .hbm, ⟨43, _⟩ => ⟨S16384x8x128x128, .f32⟩
  | .hbm, ⟨44, _⟩ => ⟨S16384x8x1x1, .f32⟩
  | .hbm, ⟨45, _⟩ => ⟨S16384x8x128x128, .f32⟩
  | .hbm, ⟨46, _⟩ => ⟨S16384x8x128x128, .i1⟩
  | .hbm, ⟨47, _⟩ => ⟨S_, .f32⟩
  | .hbm, ⟨48, _⟩ => ⟨S_, .f32⟩
  | .hbm, ⟨49, _⟩ => ⟨S16384x8x128x128, .f32⟩
  | .hbm, ⟨50, _⟩ => ⟨S16384x8x128x128, .f32⟩
  | .hbm, ⟨51, _⟩ => ⟨S_, .f32⟩
  | .hbm, ⟨52, _⟩ => ⟨S16384x128x128, .f32⟩
  | .hbm, ⟨53, _⟩ => ⟨S16384x16384, .f32⟩
  | .hbm, ⟨54, _⟩ => ⟨S16384x1024, .f32⟩
  | .hbm, ⟨55, _⟩ => ⟨S16384x1024, .f32⟩
  | .hbm, ⟨56, _⟩ => ⟨S16384x16384, .f32⟩
  | .hbm, ⟨57, _⟩ => ⟨S_, .f32⟩
  | .hbm, ⟨58, _⟩ => ⟨S16384x16384, .f32⟩
  | .hbm, ⟨59, _⟩ => ⟨S16384x16384, .f32⟩
  | .hbm, ⟨60, _⟩ => ⟨S16384x16384, .f32⟩
  | .hbm, ⟨61, _⟩ => ⟨S_, .f32⟩
  | .hbm, ⟨62, _⟩ => ⟨S16384x16384, .f32⟩
  | .hbm, ⟨63, _⟩ => ⟨S16384x16384, .f32⟩
  | .hbm, ⟨64, _⟩ => ⟨S16384x16384, .f32⟩
  | .hbm, ⟨65, _⟩ => ⟨S16384x16384, .f32⟩
  | .hbm, ⟨66, _⟩ => ⟨S16384x16384, .f32⟩
  | .hbm, ⟨67, _⟩ => ⟨S16384x1024, .f32⟩
  | .hbm, ⟨68, _⟩ => ⟨S16384x1024, .f32⟩
  | .hbm, ⟨69, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst : Ref sig .tc := ⟨.hbm, 47, rfl⟩
abbrev main_call0_v0 : Ref sig .tc := ⟨.hbm, 48, rfl⟩
abbrev main_call0_v1 : Ref sig .tc := ⟨.hbm, 49, rfl⟩
abbrev main_v41 : Ref sig .tc := ⟨.hbm, 50, rfl⟩
abbrev main_cst_0 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_1 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_2 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩

abbrev nD : Nat := 1
abbrev τ : Topo := Topo.v7x

variable {F : FTy → Type} [FloatOps F]
-- ==== Kernel5.lean ====
abbrev S32x8 : Shape := ⟨2, ![32, 8]⟩
abbrev S256 : Shape := ⟨1, ![256]⟩
abbrev S256x1 : Shape := ⟨2, ![256, 1]⟩
abbrev S1x256 : Shape := ⟨2, ![1, 256]⟩
abbrev S_ : Shape := ⟨0, ![]⟩
abbrev S256x256 : Shape := ⟨2, ![256, 256]⟩
abbrev S1x256x256 : Shape := ⟨3, ![1, 256, 256]⟩
abbrev S8x256x256 : Shape := ⟨3, ![8, 256, 256]⟩
abbrev S8x8x256x256 : Shape := ⟨4, ![8, 8, 256, 256]⟩
abbrev S1x1x256x256 : Shape := ⟨4, ![1, 1, 256, 256]⟩
abbrev S1x1 : Shape := ⟨2, ![1, 1]⟩

abbrev nBuf : Space → Nat
  | .hbm => 287
  | .vmem => 4
  | .smem => 1
  | _ => 0

abbrev hbmTy0_0 (i : Nat) : BufTy := match i % 128 with
  | 0 => ⟨S32x8, .f32⟩
  | 1 => ⟨S256, .i32⟩
  | 2 => ⟨S256x1, .i32⟩
  | 3 => ⟨S256, .i32⟩
  | 4 => ⟨S1x256, .i32⟩
  | 5 => ⟨S_, .i32⟩
  | 6 => ⟨S256x1, .i32⟩
  | 7 => ⟨S256x1, .i32⟩
  | 8 => ⟨S256x256, .i32⟩
  | 9 => ⟨S256x256, .i32⟩
  | 10 => ⟨S256x256, .i32⟩
  | 11 => ⟨S_, .i32⟩
  | 12 => ⟨S256x256, .i32⟩
  | 13 => ⟨S256x256, .i32⟩
  | 14 => ⟨S_, .i32⟩
  | 15 => ⟨S256x256, .i32⟩
  | 16 => ⟨S256x256, .i32⟩
  | 17 => ⟨S256x256, .f32⟩
  | 18 => ⟨S_, .f32⟩
  | 19 => ⟨S256x256, .f32⟩
  | 20 => ⟨S256x256, .f32⟩
  | 21 => ⟨S256x256, .f32⟩
  | 22 => ⟨S_, .f32⟩
  | 23 => ⟨S256x256, .f32⟩
  | 24 => ⟨S256x256, .f32⟩
  | 25 => ⟨S_, .f32⟩
  | 26 => ⟨S256x256, .f32⟩
  | 27 => ⟨S256x256, .f32⟩
  | 28 => ⟨S256x256, .i32⟩
  | 29 => ⟨S_, .i32⟩
  | 30 => ⟨S256x256, .i32⟩
  | 31 => ⟨S256x256, .i32⟩
  | 32 => ⟨S_, .i32⟩
  | 33 => ⟨S256x256, .i32⟩
  | 34 => ⟨S256x256, .i32⟩
  | 35 => ⟨S_, .i32⟩
  | 36 => ⟨S256x256, .i32⟩
  | 37 => ⟨S256x256, .i1⟩
  | 38 => ⟨S256x256, .i32⟩
  | 39 => ⟨S_, .i32⟩
  | 40 => ⟨S256x1, .i32⟩
  | 41 => ⟨S256x1, .i32⟩
  | 42 => ⟨S256x256, .i32⟩
  | 43 => ⟨S256x256, .i32⟩
  | 44 => ⟨S256x256, .i32⟩
  | 45 => ⟨S_, .i32⟩
  | 46 => ⟨S256x256, .i32⟩
  | 47 => ⟨S256x256, .i32⟩
  | 48 => ⟨S_, .i32⟩
  | 49 => ⟨S256x256, .i32⟩
  | 50 => ⟨S256x256, .i32⟩
  | 51 => ⟨S256x256, .f32⟩
  | 52 => ⟨S_, .f32⟩
  | 53 => ⟨S256x256, .f32⟩
  | 54 => ⟨S256x256, .f32⟩
  | 55 => ⟨S256x256, .f32⟩
  | 56 => ⟨S_, .f32⟩
  | 57 => ⟨S256x256, .f32⟩
  | 58 => ⟨S256x256, .f32⟩
  | 59 => ⟨S_, .f32⟩
  | 60 => ⟨S256x256, .f32⟩
  | 61 => ⟨S256x256, .f32⟩
  | 62 => ⟨S256x256, .i32⟩
  | 63 => ⟨S_, .i32⟩
  | 64 => ⟨S256x256, .i32⟩
  | 65 => ⟨S256x256, .i32⟩
  | 66 => ⟨S_, .i32⟩
  | 67 => ⟨S256x256, .i32⟩
  | 68 => ⟨S256x256, .i32⟩
  | 69 => ⟨S_, .i32⟩
  | 70 => ⟨S256x256, .i32⟩
  | 71 => ⟨S256x256, .i1⟩
  | 72 => ⟨S256x256, .i32⟩
  | 73 => ⟨S_, .i32⟩
  | 74 => ⟨S256x1, .i32⟩
  | 75 => ⟨S256x1, .i32⟩
  | 76 => ⟨S256x256, .i32⟩
  | 77 => ⟨S256x256, .i32⟩
  | 78 => ⟨S256x256, .i32⟩
  | 79 => ⟨S_, .i32⟩
  | 80 => ⟨S256x256, .i32⟩
  | 81 => ⟨S256x256, .i32⟩
  | 82 => ⟨S_, .i32⟩
  | 83 => ⟨S256x256, .i32⟩
  | 84 => ⟨S256x256, .i32⟩
  | 85 => ⟨S256x256, .f32⟩
  | 86 => ⟨S_, .f32⟩
  | 87 => ⟨S256x256, .f32⟩
  | 88 => ⟨S256x256, .f32⟩
  | 89 => ⟨S256x256, .f32⟩
  | 90 => ⟨S_, .f32⟩
  | 91 => ⟨S256x256, .f32⟩
  | 92 => ⟨S256x256, .f32⟩
  | 93 => ⟨S_, .f32⟩
  | 94 => ⟨S256x256, .f32⟩
  | 95 => ⟨S256x256, .f32⟩
  | 96 => ⟨S256x256, .i32⟩
  | 97 => ⟨S_, .i32⟩
  | 98 => ⟨S256x256, .i32⟩
  | 99 => ⟨S256x256, .i32⟩
  | 100 => ⟨S_, .i32⟩
  | 101 => ⟨S256x256, .i32⟩
  | 102 => ⟨S256x256, .i32⟩
  | 103 => ⟨S_, .i32⟩
  | 104 => ⟨S256x256, .i32⟩
  | 105 => ⟨S256x256, .i1⟩
  | 106 => ⟨S256x256, .i32⟩
  | 107 => ⟨S_, .i32⟩
  | 108 => ⟨S256x1, .i32⟩
  | 109 => ⟨S256x1, .i32⟩
  | 110 => ⟨S256x256, .i32⟩
  | 111 => ⟨S256x256, .i32⟩
  | 112 => ⟨S256x256, .i32⟩
  | 113 => ⟨S_, .i32⟩
  | 114 => ⟨S256x256, .i32⟩
  | 115 => ⟨S256x256, .i32⟩
  | 116 => ⟨S_, .i32⟩
  | 117 => ⟨S256x256, .i32⟩
  | 118 => ⟨S256x256, .i32⟩
  | 119 => ⟨S256x256, .f32⟩
  | 120 => ⟨S_, .f32⟩
  | 121 => ⟨S256x256, .f32⟩
  | 122 => ⟨S256x256, .f32⟩
  | 123 => ⟨S256x256, .f32⟩
  | 124 => ⟨S_, .f32⟩
  | 125 => ⟨S256x256, .f32⟩
  | 126 => ⟨S256x256, .f32⟩
  | 127 => ⟨S_, .f32⟩
  | _ => ⟨S32x8, .f32⟩

abbrev hbmTy0_1 (i : Nat) : BufTy := match i % 128 with
  | 0 => ⟨S256x256, .f32⟩
  | 1 => ⟨S256x256, .f32⟩
  | 2 => ⟨S256x256, .i32⟩
  | 3 => ⟨S_, .i32⟩
  | 4 => ⟨S256x256, .i32⟩
  | 5 => ⟨S256x256, .i32⟩
  | 6 => ⟨S_, .i32⟩
  | 7 => ⟨S256x256, .i32⟩
  | 8 => ⟨S256x256, .i32⟩
  | 9 => ⟨S_, .i32⟩
  | 10 => ⟨S256x256, .i32⟩
  | 11 => ⟨S256x256, .i1⟩
  | 12 => ⟨S256x256, .i32⟩
  | 13 => ⟨S_, .i32⟩
  | 14 => ⟨S256x1, .i32⟩
  | 15 => ⟨S256x1, .i32⟩
  | 16 => ⟨S256x256, .i32⟩
  | 17 => ⟨S256x256, .i32⟩
  | 18 => ⟨S256x256, .i32⟩
  | 19 => ⟨S_, .i32⟩
  | 20 => ⟨S256x256, .i32⟩
  | 21 => ⟨S256x256, .i32⟩
  | 22 => ⟨S_, .i32⟩
  | 23 => ⟨S256x256, .i32⟩
  | 24 => ⟨S256x256, .i32⟩
  | 25 => ⟨S256x256, .f32⟩
  | 26 => ⟨S_, .f32⟩
  | 27 => ⟨S256x256, .f32⟩
  | 28 => ⟨S256x256, .f32⟩
  | 29 => ⟨S256x256, .f32⟩
  | 30 => ⟨S_, .f32⟩
  | 31 => ⟨S256x256, .f32⟩
  | 32 => ⟨S256x256, .f32⟩
  | 33 => ⟨S_, .f32⟩
  | 34 => ⟨S256x256, .f32⟩
  | 35 => ⟨S256x256, .f32⟩
  | 36 => ⟨S256x256, .i32⟩
  | 37 => ⟨S_, .i32⟩
  | 38 => ⟨S256x256, .i32⟩
  | 39 => ⟨S256x256, .i32⟩
  | 40 => ⟨S_, .i32⟩
  | 41 => ⟨S256x256, .i32⟩
  | 42 => ⟨S256x256, .i32⟩
  | 43 => ⟨S_, .i32⟩
  | 44 => ⟨S256x256, .i32⟩
  | 45 => ⟨S256x256, .i1⟩
  | 46 => ⟨S256x256, .i32⟩
  | 47 => ⟨S_, .i32⟩
  | 48 => ⟨S256x1, .i32⟩
  | 49 => ⟨S256x1, .i32⟩
  | 50 => ⟨S256x256, .i32⟩
  | 51 => ⟨S256x256, .i32⟩
  | 52 => ⟨S256x256, .i32⟩
  | 53 => ⟨S_, .i32⟩
  | 54 => ⟨S256x256, .i32⟩
  | 55 => ⟨S256x256, .i32⟩
  | 56 => ⟨S_, .i32⟩
  | 57 => ⟨S256x256, .i32⟩
  | 58 => ⟨S256x256, .i32⟩
  | 59 => ⟨S256x256, .f32⟩
  | 60 => ⟨S_, .f32⟩
  | 61 => ⟨S256x256, .f32⟩
  | 62 => ⟨S256x256, .f32⟩
  | 63 => ⟨S256x256, .f32⟩
  | 64 => ⟨S_, .f32⟩
  | 65 => ⟨S256x256, .f32⟩
  | 66 => ⟨S256x256, .f32⟩
  | 67 => ⟨S_, .f32⟩
  | 68 => ⟨S256x256, .f32⟩
  | 69 => ⟨S256x256, .f32⟩
  | 70 => ⟨S256x256, .i32⟩
  | 71 => ⟨S_, .i32⟩
  | 72 => ⟨S256x256, .i32⟩
  | 73 => ⟨S256x256, .i32⟩
  | 74 => ⟨S_, .i32⟩
  | 75 => ⟨S256x256, .i32⟩
  | 76 => ⟨S256x256, .i32⟩
  | 77 => ⟨S_, .i32⟩
  | 78 => ⟨S256x256, .i32⟩
  | 79 => ⟨S256x256, .i1⟩
  | 80 => ⟨S256x256, .i32⟩
  | 81 => ⟨S_, .i32⟩
  | 82 => ⟨S256x1, .i32⟩
  | 83 => ⟨S256x1, .i32⟩
  | 84 => ⟨S256x256, .i32⟩
  | 85 => ⟨S256x256, .i32⟩
  | 86 => ⟨S256x256, .i32⟩
  | 87 => ⟨S_, .i32⟩
  | 88 => ⟨S256x256, .i32⟩
  | 89 => ⟨S256x256, .i32⟩
  | 90 => ⟨S_, .i32⟩
  | 91 => ⟨S256x256, .i32⟩
  | 92 => ⟨S256x256, .i32⟩
  | 93 => ⟨S256x256, .f32⟩
  | 94 => ⟨S_, .f32⟩
  | 95 => ⟨S256x256, .f32⟩
  | 96 => ⟨S256x256, .f32⟩
  | 97 => ⟨S256x256, .f32⟩
  | 98 => ⟨S_, .f32⟩
  | 99 => ⟨S256x256, .f32⟩
  | 100 => ⟨S256x256, .f32⟩
  | 101 => ⟨S_, .f32⟩
  | 102 => ⟨S256x256, .f32⟩
  | 103 => ⟨S256x256, .f32⟩
  | 104 => ⟨S256x256, .i32⟩
  | 105 => ⟨S_, .i32⟩
  | 106 => ⟨S256x256, .i32⟩
  | 107 => ⟨S256x256, .i32⟩
  | 108 => ⟨S_, .i32⟩
  | 109 => ⟨S256x256, .i32⟩
  | 110 => ⟨S256x256, .i32⟩
  | 111 => ⟨S_, .i32⟩
  | 112 => ⟨S256x256, .i32⟩
  | 113 => ⟨S256x256, .i1⟩
  | 114 => ⟨S256x256, .i32⟩
  | 115 => ⟨S_, .i32⟩
  | 116 => ⟨S256x1, .i32⟩
  | 117 => ⟨S256x1, .i32⟩
  | 118 => ⟨S256x256, .i32⟩
  | 119 => ⟨S256x256, .i32⟩
  | 120 => ⟨S256x256, .i32⟩
  | 121 => ⟨S_, .i32⟩
  | 122 => ⟨S256x256, .i32⟩
  | 123 => ⟨S256x256, .i32⟩
  | 124 => ⟨S_, .i32⟩
  | 125 => ⟨S256x256, .i32⟩
  | 126 => ⟨S256x256, .i32⟩
  | 127 => ⟨S256x256, .f32⟩
  | _ => ⟨S32x8, .f32⟩

abbrev hbmTy0_2 (i : Nat) : BufTy := match i % 128 with
  | 0 => ⟨S_, .f32⟩
  | 1 => ⟨S256x256, .f32⟩
  | 2 => ⟨S256x256, .f32⟩
  | 3 => ⟨S256x256, .f32⟩
  | 4 => ⟨S_, .f32⟩
  | 5 => ⟨S256x256, .f32⟩
  | 6 => ⟨S256x256, .f32⟩
  | 7 => ⟨S_, .f32⟩
  | 8 => ⟨S256x256, .f32⟩
  | 9 => ⟨S256x256, .f32⟩
  | 10 => ⟨S256x256, .i32⟩
  | 11 => ⟨S_, .i32⟩
  | 12 => ⟨S256x256, .i32⟩
  | 13 => ⟨S256x256, .i32⟩
  | 14 => ⟨S_, .i32⟩
  | 15 => ⟨S256x256, .i32⟩
  | 16 => ⟨S256x256, .i32⟩
  | 17 => ⟨S_, .i32⟩
  | 18 => ⟨S256x256, .i32⟩
  | 19 => ⟨S256x256, .i1⟩
  | 20 => ⟨S256x256, .i32⟩
  | 21 => ⟨S1x256x256, .i32⟩
  | 22 => ⟨S1x256x256, .i32⟩
  | 23 => ⟨S1x256x256, .i32⟩
  | 24 => ⟨S1x256x256, .i32⟩
  | 25 => ⟨S1x256x256, .i32⟩
  | 26 => ⟨S1x256x256, .i32⟩
  | 27 => ⟨S1x256x256, .i32⟩
  | 28 => ⟨S1x256x256, .i32⟩
  | 29 => ⟨S8x256x256, .i32⟩
  | 30 => ⟨S8x8x256x256, .f32⟩
  | _ => ⟨S32x8, .f32⟩

abbrev hbmTy (i : Nat) : BufTy := match i / 128 with
  | 0 => hbmTy0_0 i
  | 1 => hbmTy0_1 i
  | 2 => hbmTy0_2 i
  | _ => ⟨S32x8, .f32⟩

abbrev bufTy : (tb : Table) → Fin (tcTables nBuf tb) → BufTy
  | .hbm, ⟨i, _⟩ => hbmTy i
  | .local _ .vmem, ⟨0, _⟩ => ⟨S1x256x256, .i32⟩
  | .local _ .vmem, ⟨1, _⟩ => ⟨S1x256x256, .i32⟩
  | .local _ .vmem, ⟨2, _⟩ => ⟨S1x1x256x256, .f32⟩
  | .local _ .vmem, ⟨3, _⟩ => ⟨S1x1x256x256, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_c_5 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_7 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_8 : Ref sig .tc := ⟨.hbm, 45, rfl⟩
abbrev main_v34 : Ref sig .tc := ⟨.hbm, 46, rfl⟩
abbrev main_v35 : Ref sig .tc := ⟨.hbm, 47, rfl⟩
abbrev main_c_9 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_10 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_11 : Ref sig .tc := ⟨.hbm, 56, rfl⟩
abbrev main_v42 : Ref sig .tc := ⟨.hbm, 57, rfl⟩
abbrev main_v43 : Ref sig .tc := ⟨.hbm, 58, rfl⟩
abbrev main_cst_12 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_13 : Ref sig .tc := ⟨.hbm, 63, rfl⟩
abbrev main_v47 : Ref sig .tc := ⟨.hbm, 64, rfl⟩
abbrev main_v48 : Ref sig .tc := ⟨.hbm, 65, rfl⟩
abbrev main_c_14 : Ref sig .tc := ⟨.hbm, 66, rfl⟩
abbrev main_v49 : Ref sig .tc := ⟨.hbm, 67, rfl⟩
abbrev main_v50 : Ref sig .tc := ⟨.hbm, 68, rfl⟩
abbrev main_c_15 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_16 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_17 : Ref sig .tc := ⟨.hbm, 79, rfl⟩
abbrev main_v59 : Ref sig .tc := ⟨.hbm, 80, rfl⟩
abbrev main_v60 : Ref sig .tc := ⟨.hbm, 81, rfl⟩
abbrev main_c_18 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_19 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_20 : Ref sig .tc := ⟨.hbm, 90, rfl⟩
abbrev main_v67 : Ref sig .tc := ⟨.hbm, 91, rfl⟩
abbrev main_v68 : Ref sig .tc := ⟨.hbm, 92, rfl⟩
abbrev main_cst_21 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_22 : Ref sig .tc := ⟨.hbm, 97, rfl⟩
abbrev main_v72 : Ref sig .tc := ⟨.hbm, 98, rfl⟩
abbrev main_v73 : Ref sig .tc := ⟨.hbm, 99, rfl⟩
abbrev main_c_23 : Ref sig .tc := ⟨.hbm, 100, rfl⟩
abbrev main_v74 : Ref sig .tc := ⟨.hbm, 101, rfl⟩
abbrev main_v75 : Ref sig .tc := ⟨.hbm, 102, rfl⟩
abbrev main_c_24 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_25 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_26 : Ref sig .tc := ⟨.hbm, 113, rfl⟩
abbrev main_v84 : Ref sig .tc := ⟨.hbm, 114, rfl⟩
abbrev main_v85 : Ref sig .tc := ⟨.hbm, 115, rfl⟩
abbrev main_c_27 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_28 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_29 : Ref sig .tc := ⟨.hbm, 124, rfl⟩
abbrev main_v92 : Ref sig .tc := ⟨.hbm, 125, rfl⟩
abbrev main_v93 : Ref sig .tc := ⟨.hbm, 126, rfl⟩
abbrev main_cst_30 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_c_31 : Ref sig .tc := ⟨.hbm, 131, rfl⟩
abbrev main_v97 : Ref sig .tc := ⟨.hbm, 132, rfl⟩
abbrev main_v98 : Ref sig .tc := ⟨.hbm, 133, rfl⟩
abbrev main_c_32 : Ref sig .tc := ⟨.hbm, 134, rfl⟩
abbrev main_v99 : Ref sig .tc := ⟨.hbm, 135, rfl⟩
abbrev main_v100 : Ref sig .tc := ⟨.hbm, 136, rfl⟩
abbrev main_c_33 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_c_34 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_c_35 : Ref sig .tc := ⟨.hbm, 147, rfl⟩
abbrev main_v109 : Ref sig .tc := ⟨.hbm, 148, rfl⟩
abbrev main_v110 : Ref sig .tc := ⟨.hbm, 149, rfl⟩
abbrev main_c_36 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_37 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_38 : Ref sig .tc := ⟨.hbm, 158, rfl⟩
abbrev main_v117 : Ref sig .tc := ⟨.hbm, 159, rfl⟩
abbrev main_v118 : Ref sig .tc := ⟨.hbm, 160, rfl⟩
abbrev main_cst_39 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_c_40 : Ref sig .tc := ⟨.hbm, 165, rfl⟩
abbrev main_v122 : Ref sig .tc := ⟨.hbm, 166, rfl⟩
abbrev main_v123 : Ref sig .tc := ⟨.hbm, 167, rfl⟩
abbrev main_c_41 : Ref sig .tc := ⟨.hbm, 168, rfl⟩
abbrev main_v124 : Ref sig .tc := ⟨.hbm, 169, rfl⟩
abbrev main_v125 : Ref sig .tc := ⟨.hbm, 170, rfl⟩
abbrev main_c_42 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_c_43 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_c_44 : Ref sig .tc := ⟨.hbm, 181, rfl⟩
abbrev main_v134 : Ref sig .tc := ⟨.hbm, 182, rfl⟩
abbrev main_v135 : Ref sig .tc := ⟨.hbm, 183, rfl⟩
abbrev main_c_45 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_cst_46 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_cst_47 : Ref sig .tc := ⟨.hbm, 192, rfl⟩
abbrev main_v142 : Ref sig .tc := ⟨.hbm, 193, rfl⟩
abbrev main_v143 : Ref sig .tc := ⟨.hbm, 194, rfl⟩
abbrev main_cst_48 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_c_49 : Ref sig .tc := ⟨.hbm, 199, rfl⟩
abbrev main_v147 : Ref sig .tc := ⟨.hbm, 200, rfl⟩
abbrev main_v148 : Ref sig .tc := ⟨.hbm, 201, rfl⟩
abbrev main_c_50 : Ref sig .tc := ⟨.hbm, 202, rfl⟩
abbrev main_v149 : Ref sig .tc := ⟨.hbm, 203, rfl⟩
abbrev main_v150 : Ref sig .tc := ⟨.hbm, 204, rfl⟩
abbrev main_c_51 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_c_52 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_c_53 : Ref sig .tc := ⟨.hbm, 215, rfl⟩
abbrev main_v159 : Ref sig .tc := ⟨.hbm, 216, rfl⟩
abbrev main_v160 : Ref sig .tc := ⟨.hbm, 217, rfl⟩
abbrev main_c_54 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_cst_55 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_cst_56 : Ref sig .tc := ⟨.hbm, 226, rfl⟩
abbrev main_v167 : Ref sig .tc := ⟨.hbm, 227, rfl⟩
abbrev main_v168 : Ref sig .tc := ⟨.hbm, 228, rfl⟩
abbrev main_cst_57 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_c_58 : Ref sig .tc := ⟨.hbm, 233, rfl⟩
abbrev main_v172 : Ref sig .tc := ⟨.hbm, 234, rfl⟩
abbrev main_v173 : Ref sig .tc := ⟨.hbm, 235, rfl⟩
abbrev main_c_59 : Ref sig .tc := ⟨.hbm, 236, rfl⟩
abbrev main_v174 : Ref sig .tc := ⟨.hbm, 237, rfl⟩
abbrev main_v175 : Ref sig .tc := ⟨.hbm, 238, rfl⟩
abbrev main_c_60 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_c_61 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_c_62 : Ref sig .tc := ⟨.hbm, 249, rfl⟩
abbrev main_v184 : Ref sig .tc := ⟨.hbm, 250, rfl⟩
abbrev main_v185 : Ref sig .tc := ⟨.hbm, 251, rfl⟩
abbrev main_c_63 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_cst_64 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_cst_65 : Ref sig .tc := ⟨.hbm, 260, rfl⟩
abbrev main_v192 : Ref sig .tc := ⟨.hbm, 261, rfl⟩
abbrev main_v193 : Ref sig .tc := ⟨.hbm, 262, rfl⟩
abbrev main_cst_66 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_c_67 : Ref sig .tc := ⟨.hbm, 267, rfl⟩
abbrev main_v197 : Ref sig .tc := ⟨.hbm, 268, rfl⟩
abbrev main_v198 : Ref sig .tc := ⟨.hbm, 269, rfl⟩
abbrev main_c_68 : Ref sig .tc := ⟨.hbm, 270, rfl⟩
abbrev main_v199 : Ref sig .tc := ⟨.hbm, 271, rfl⟩
abbrev main_v200 : Ref sig .tc := ⟨.hbm, 272, rfl⟩
abbrev main_c_69 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
def k0_off1 (i : grid0.Coords) (k0_t1 : Fin k0_t1_loop.trips) : Fin 2 → Nat :=
  let c0_i32 : BitVec 32 := 0#32
  let c1_i32 : BitVec 32 := 1#32
  let arg5 : BitVec 32 := Scf.iv c0_i32 c1_i32 k0_t1
  let v10 : Index := Scalar.indexCast arg5
  let arg0 : BitVec 32 := BitVec.ofNat 32 (i 0).val
  let v11 : Index := Scalar.indexCast arg0
  ![v10.toNat, v11.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S32x8 : Shape := ⟨2, ![32, 8]⟩
abbrev S8x32 : Shape := ⟨2, ![8, 32]⟩
abbrev S2048 : Shape := ⟨1, ![2048]⟩
abbrev S8x256 : Shape := ⟨2, ![8, 256]⟩
abbrev S8x256x1 : Shape := ⟨3, ![8, 256, 1]⟩
abbrev S256 : Shape := ⟨1, ![256]⟩
abbrev S1x1x256 : Shape := ⟨3, ![1, 1, 256]⟩
abbrev S8x256x256 : Shape := ⟨3, ![8, 256, 256]⟩
abbrev S_ : Shape := ⟨0, ![]⟩
abbrev S8x256x256x1 : Shape := ⟨4, ![8, 256, 256, 1]⟩
abbrev S8x8x256x256 : Shape := ⟨4, ![8, 8, 256, 256]⟩

abbrev nBuf : Space → Nat
  | .hbm => 47
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S8x32, .f32⟩
  | .hbm, ⟨2, _⟩ => ⟨S2048, .i32⟩
  | .hbm, ⟨3, _⟩ => ⟨S8x256, .i32⟩
  | .hbm, ⟨4, _⟩ => ⟨S8x256x1, .i32⟩
  | .hbm, ⟨5, _⟩ => ⟨S256, .i32⟩
  | .hbm, ⟨6, _⟩ => ⟨S1x1x256, .i32⟩
  | .hbm, ⟨7, _⟩ => ⟨S8x256x256, .i32⟩
  | .hbm, ⟨8, _⟩ => ⟨S8x256x256, .i32⟩
  | .hbm, ⟨9, _⟩ => ⟨S8x256x256, .i32⟩
  | .hbm, ⟨10, _⟩ => ⟨S_, .i32⟩
  | .hbm, ⟨11, _⟩ => ⟨S8x256x256, .i32⟩
  | .hbm, ⟨12, _⟩ => ⟨S8x256x256, .i32⟩
  | .hbm, ⟨13, _⟩ => ⟨S_, .i32⟩
  | .hbm, ⟨14, _⟩ => ⟨S8x256x256, .i32⟩
  | .hbm, ⟨15, _⟩ => ⟨S8x256x256, .i32⟩
  | .hbm, ⟨16, _⟩ => ⟨S8x256x256, .f32⟩
  | .hbm, ⟨17, _⟩ => ⟨S_, .f32⟩
  | .hbm, ⟨18, _⟩ => ⟨S8x256x256, .f32⟩
  | .hbm, ⟨19, _⟩ => ⟨S8x256x256, .f32⟩
  | .hbm, ⟨20, _⟩ => ⟨S8x256x256, .f32⟩
  | .hbm, ⟨21, _⟩ => ⟨S_, .f32⟩
  | .hbm, ⟨22, _⟩ => ⟨S8x256x256, .f32⟩
  | .hbm, ⟨23, _⟩ => ⟨S8x256x256, .f32⟩
  | .hbm, ⟨24, _⟩ => ⟨S_, .f32⟩
  | .hbm, ⟨25, _⟩ => ⟨S8x256x256, .f32⟩
  | .hbm, ⟨26, _⟩ => ⟨S8x256x256, .f32⟩
  | .hbm, ⟨27, _⟩ => ⟨S8x256x256, .i32⟩
  | .hbm, ⟨28, _⟩ => ⟨S_, .i32⟩
  | .hbm, ⟨29, _⟩ => ⟨S8x256x256, .i32⟩
  | .hbm, ⟨30, _⟩ => ⟨S8x256x256, .i32⟩
  | .hbm, ⟨31, _⟩ => ⟨S_, .i32⟩
  | .hbm, ⟨32, _⟩ => ⟨S8x256x256, .i32⟩
  | .hbm, ⟨33, _⟩ => ⟨S8x256x256, .i32⟩
  | .hbm, ⟨34, _⟩ => ⟨S_, .i32⟩
  | .hbm, ⟨35, _⟩ => ⟨S8x256x256, .i32⟩
  | .hbm, ⟨36, _⟩ => ⟨S8x256x256, .i1⟩
  | .hbm, ⟨37, _⟩ => ⟨S8x256x256, .i32⟩
  | .hbm, ⟨38, _⟩ => ⟨S_, .i32⟩
  | .hbm, ⟨39, _⟩ => ⟨S8x256x256, .i32⟩
  | .hbm, ⟨40, _⟩ => ⟨S8x256x256, .i1⟩
  | .hbm, ⟨41, _⟩ => ⟨S_, .i32⟩
  | .hbm, ⟨42, _⟩ => ⟨S8x256x256, .i32⟩
  | .hbm, ⟨43, _⟩ => ⟨S8x256x256, .i32⟩
  | .hbm, ⟨44, _⟩ => ⟨S8x256x256, .i32⟩
  | .hbm, ⟨45, _⟩ => ⟨S8x256x256x1, .i32⟩
  | .hbm, ⟨46, _⟩ => ⟨S8x8x256x256, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_v9 : Ref sig .tc := ⟨.hbm, 11, rfl⟩
abbrev main_v10 : Ref sig .tc := ⟨.hbm, 12, rfl⟩
abbrev main_c_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c_3 : Ref sig .tc := ⟨.hbm, 28, rfl⟩
abbrev main_v22 : Ref sig .tc := ⟨.hbm, 29, rfl⟩
abbrev main_v23 : Ref sig .tc := ⟨.hbm, 30, rfl⟩
abbrev main_c_4 : Ref sig .tc := ⟨.hbm, 31, rfl⟩
abbrev main_v24 : Ref sig .tc := ⟨.hbm, 32, rfl⟩
abbrev main_v25 : Ref sig .tc := ⟨.hbm, 33, rfl⟩
abbrev main_c_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_6 : Ref sig .tc := ⟨.hbm, 38, rfl⟩
abbrev main_v29 : Ref sig .tc := ⟨.hbm, 39, rfl⟩
abbrev main_v30 : Ref sig .tc := ⟨.hbm, 40, rfl⟩
abbrev main_c_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.RetentionScan.lean ====
/-
  The reference's scan over the 32 chunks: what its carried buffers hold before each trip, and so the result of the
  reference program as a function of the last state of the scan and of the argument.
-/
module

public import proofs.«01_k».proof.Proof.Gen.ReferenceIdeal.Run
public import proofs.«01_k».proof.Proof.Gen.ReferenceIdeal.Step

@[expose] public section

noncomputable section

namespace Cert.Retention

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- Before trip `j` the carried buffers hold the state `s`, the per-chunk decay and the number `j`. -/
structure Carries (V0 : Valuation τ sig (Elt F)) (s : State F) (j : ℕ) : Prop where
  now : V0 (Proc.devRef .tc main_v105_3) = s.main_v105_3
  past : V0 (Proc.devRef .tc main_v105_4) = s.main_v105_4
  added : V0 (Proc.devRef .tc main_v105_0) = s.main_v105_0
  decay : V0 (Proc.devRef .tc main_v105_1) = Cert.ReferenceIdeal.Step.K_main_v101 (F := F)
  number : V0 (Proc.devRef .tc main_v105_2) = constantI S_ 32 (BitVec.ofNat 32 j)

section
variable {V0 : Valuation τ sig (Elt F)} {s : State F} {j : ℕ}

theorem carries_now (h : Carries V0 s j) : step_main_v105_3 V0 = (step j s).main_v105_3 := by
  unfold step_main_v105_3
  rw [h.now, h.decay, h.added, h.number]
  rfl

theorem carries_past (h : Carries V0 s j) : step_main_v105_4 V0 = (step j s).main_v105_4 := by
  unfold step_main_v105_4
  rw [h.past, h.now, h.number]
  rfl

theorem carries_number (h : Carries V0 s j) : step_main_v105_2 V0 = constantI S_ 32 (BitVec.ofNat 32 (j + 1)) := by
  unfold step_main_v105_2
  rw [h.number]
  funext i
  show BitVec.ofNat 32 j + 1#32 = BitVec.ofNat 32 (j + 1)
  simp only [BitVec.ofNat_add]

/-- One trip takes the state to the next one. -/
theorem carries_step (h : Carries V0 s j) : Carries (STEP V0) (step j s) (j + 1) where
  now := (STEP_main_v105_3 V0).trans (carries_now h)
  past := (STEP_main_v105_4 V0).trans (carries_past h)
  added := (STEP_main_v105_0 V0).trans h.added
  decay := (STEP_main_v105_1 V0).trans h.decay
  number := (STEP_main_v105_2 V0).trans (carries_number h)

set_option maxRecDepth 8192 in
/-- The result after the loop, of the state the loop ends in. -/
theorem result_of_carries (h : Carries V0 s j) {x : (⟨S16384x6656, .f32⟩ : BufTy).Contents (Elt F)}
    (hx : V0 (Proc.devRef .tc main_arg0) = x) : out_main_v257 V0 = Cert.ReferenceIdeal.Step.R_main_v257 s x := by
  unfold out_main_v257 Cert.ReferenceIdeal.Step.R_main_v257
  rw [h.past, hx]
  try rfl
end

/-- The states of the scan: the first holds zeros, each trip adds what its chunk contributes. -/
def scanState (x : (⟨S16384x6656, .f32⟩ : BufTy).Contents (Elt F)) : ℕ → State F
  | 0 => init x
  | n + 1 => step n (scanState x n)

variable (m : (ℓ : Loc nD τ sig) → Buf (Elt F) ℓ) (c : Dev nD)

set_option maxRecDepth 65536 in
set_option maxHeartbeats 400000 in
theorem carries_entry : Carries (entryContents preI m c) (init (m ((c.tc : Thread nD τ).loc main_arg0))) 0 := by
  constructor <;> (simp only [entryContents, afterL_cons, afterL_nil]; after_reads_simp) <;> rfl

theorem carries_all : ∀ k, Carries (STEP^[k] (entryContents preI m c)) (scanState (m ((c.tc : Thread nD τ).loc main_arg0)) k) k
  | 0 => carries_entry m c
  | k + 1 => by
    rw [Function.iterate_succ_apply']
    exact carries_step (carries_all k)

/-- The reference program's run: its result, of the scan's last state and the argument, which is unchanged. -/
theorem run_reference (ρ : Dev nD → PrngReg) :
    θ_run (defs (F := F)) (onTc (τ := τ) (main (F := F))) ⟨m, fun _ => 0, ρ⟩ fun r => ∀ c : Dev nD,
      r.2.mem ((c.tc : Thread nD τ).loc main_v257)
        = Cert.ReferenceIdeal.Step.R_main_v257 (scanState (m ((c.tc : Thread nD τ).loc main_arg0)) 32) (m ((c.tc : Thread nD τ).loc main_arg0))
      ∧ r.2.mem ((c.tc : Thread nD τ).loc main_arg0) = m ((c.tc : Thread nD τ).loc main_arg0) :=
  (θ_run defs _ _).mono (fun _ h c =>
    ⟨(h c).1.trans (result_of_carries (carries_all m c 32) (iter_main_arg0 m c 32)), (h c).2⟩) (Cert.ReferenceIdeal.Value.run m ρ)

end Cert.Retention

end
-- ==== Proof.ReferenceFrames.lean ====
/-
  The five references run to the end, leave their arguments as they were, and use no semaphore.
-/
module

public import proofs.«01_k».proof.Defs
public import proofs.«01_k».proof.Proof.RetentionScan
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import Idealize.ShloMosaic.Lib.Quiescent

@[expose] public section

noncomputable section

namespace Cert.References

open Idealize.ShloMosaic Idealize.ShloMosaic.TcCoe Idealize.SL.Sem

theorem retention : Cert.quiescent_ReferenceIdeal := fun m ρ _ =>
  (θ_run Cert.ReferenceIdeal.defs _ _).mono (fun r h => ⟨fun c => (h c).2, sem_eq_zero_of_no_sems (by decide) r.2⟩)
    (Cert.Retention.run_reference (F := Ideal) m ρ)

theorem projection : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem merge : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

theorem experts : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem bias : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

end Cert.References

end
-- ==== Proof.InProjBlock.lean ====
/-
  What one grid point of the input projection leaves behind: the 512 normalised rows in the scratch, computed at the
  first of the 13 points that share a block of rows and kept by the others, and in the output block the product of
  those rows with the point's block of 512 weight columns.
-/
module

public import proofs.«01_k».proof.Proof.Gen.Kernel2Ideal.Value
public import Idealize.ShloMosaic.Lib.Tactic

@[expose] public section

noncomputable section

namespace Cert.InProj

open Cert.Kernel2Ideal Cert.Kernel2Ideal.Gen Cert.Kernel2Ideal.Value Idealize.ShloMosaic Idealize.ShloMosaic.TcCoe Idealize.SL.Sem

variable {F : FTy → Type} [FloatOps F]

theorem hz : (![0, 0] : Fin 2 → Nat) = fun _ => 0 := funext fun a => by fin_cases a <;> rfl

/-- The first point of a block of rows leaves the normalised rows in the scratch. -/
theorem sout_A (c : Dev nD) (i : grid0.Coords) (a2 : Memref sig .tc .vmem S512x1024 .f32) (h2 : a2.IsWhole)
    (a3 : Memref sig .tc .vmem S1x1024 .f32) (h3 : a3.IsWhole) (a4 : Memref sig .tc .vmem S1024x512 .bf16) (h4 : a4.IsWhole)
    (a5 : Memref sig .tc .vmem S512x512 .f32) (h5 : a5.IsWhole) (a6 : Memref sig .tc .vmem S512x1024 .bf16) (h6 : a6.IsWhole)
    (hc : cond0_0 i) (x0 : Vec F S512x1024 .f32) (x1 : Vec F S1x1024 .f32) (x2 : Vec F S1024x512 .bf16) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S512x1024) hz,
    View.ld_unit_zero (S := S1x1024) hz]

/-- The first point of a block of rows leaves in the output block the product with the rows it has just normalised. -/
theorem out_A (c : Dev nD) (i : grid0.Coords) (a2 : Memref sig .tc .vmem S512x1024 .f32) (h2 : a2.IsWhole)
    (a3 : Memref sig .tc .vmem S1x1024 .f32) (h3 : a3.IsWhole) (a4 : Memref sig .tc .vmem S1024x512 .bf16) (h4 : a4.IsWhole)
    (a5 : Memref sig .tc .vmem S512x512 .f32) (h5 : a5.IsWhole) (a6 : Memref sig .tc .vmem S512x1024 .bf16) (h6 : a6.IsWhole)
    (hc : cond0_0 i) (x0 : Vec F S512x1024 .f32) (x1 : Vec F S1x1024 .f32) (x2 : Vec F S1024x512 .bf16) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, View.readCov_unit_zero (S := S512x1024) _ hz]
  simp only [View.readAt_eq_ld, h2.read_unread, h3.read_unread, h4.read_unread, View.ld_unit_zero (S := S512x1024) hz,
    View.ld_unit_zero (S := S1x1024) hz, View.ld_unit_zero (S := S1024x512) hz]

/-- A later point leaves in the output block the product with the rows it finds in the scratch. -/
theorem out_B (c : Dev nD) (i : grid0.Coords) (a2 : Memref sig .tc .vmem S512x1024 .f32) (h2 : a2.IsWhole)
    (a3 : Memref sig .tc .vmem S1x1024 .f32) (h3 : a3.IsWhole) (a4 : Memref sig .tc .vmem S1024x512 .bf16) (h4 : a4.IsWhole)
    (a5 : Memref sig .tc .vmem S512x512 .f32) (h5 : a5.IsWhole) (a6 : Memref sig .tc .vmem S512x1024 .bf16) (h6 : a6.IsWhole)
    (hc : ¬cond0_0 i) (x0 : Vec F S512x1024 .f32) (x1 : Vec F S1x1024 .f32) (x2 : Vec F S1024x512 .bf16)
    (xs : Vec F S512x1024 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero hz]
  simp only [View.readAt_eq_ld, h4.read_unread, h6.read_unread, View.ld_unit_zero (S := S512x1024) hz,
    View.ld_unit_zero (S := S1024x512) hz]

variable (m : (ℓ : Loc nD τ sig) → Buf (Elt F) ℓ)

/-- The point's block of rows, its gain, and its block of weight columns. -/
abbrev rowsAt (c : Dev nD) (n : ℕ) (h : n < cfg0.N) : Vec F S512x1024 .f32 := iblk m c 0 ⟨n, h⟩
abbrev gainAt (c : Dev nD) (n : ℕ) (h : n < cfg0.N) : Vec F S1x1024 .f32 := iblk m c 1 ⟨n, h⟩
abbrev colsAt (c : Dev nD) (n : ℕ) (h : n < cfg0.N) : Vec F S1024x512 .bf16 := iblk m c 2 ⟨n, h⟩

/-- The block numbers the windows take at each point. -/
theorem index_facts : ∀ t : Fin cfg0.N, win0_0.index t (0 : Fin 2) = t.val / 13 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 13 :=
  (by decide +kernel : ∀ t : Fin grid0.N, _)

/-- The block of rows read at an index: row `512 * (n / 13) + r` of the flattened input. -/
theorem rowsAt_apply (c : Dev nD) (n : ℕ) (h : n < cfg0.N) (j : S512x1024.Idx) (i : S16384x1024.Idx)
    (h0 : (i 0).val = 512 * (n / 13) + (j 0).val) (h1 : (i 1).val = (j 1).val) :
    rowsAt m c n h j = (V m c main_v0 : Vec F S16384x1024 .f32) i := by
  obtain ⟨e0, e1, -⟩ := index_facts ⟨n, h⟩
  unfold rowsAt iblk
  rw [View.read_apply]
  show (V m c main_v0 : Vec F S16384x1024 .f32) _ = (V m c main_v0 : Vec F S16384x1024 .f32) _
  congr 1
  funext a
  apply Fin.ext
  match a with
  | ⟨0, _⟩ => show win0_0.index ⟨n, h⟩ (0 : Fin 2) * 512 + 1 * (j 0).val = (i 0).val; rw [e0, h0]; dsimp only; omega
  | ⟨1, _⟩ => show win0_0.index ⟨n, h⟩ (1 : Fin 2) * 1024 + 1 * (j 1).val = (i 1).val; rw [e1, h1]; omega

/-- The gain is the same at every point. -/
theorem gainAt_apply (c : Dev nD) (n : ℕ) (h : n < cfg0.N) (j : S1x1024.Idx) :
    gainAt m c n h j = (V m c main_v8 : Vec F S1x1024 .f32) j := by
  obtain ⟨-, -, e0, e1, -⟩ := index_facts ⟨n, h⟩
  unfold gainAt iblk
  rw [View.read_apply]
  show (V m c main_v8 : Vec F S1x1024 .f32) _ = (V m c main_v8 : Vec F S1x1024 .f32) _
  congr 1
  funext a
  apply Fin.ext
  match a with
  | ⟨0, _⟩ => show win0_1.index ⟨n, h⟩ (0 : Fin 2) * 1 + 1 * (j 0).val = (j 0).val; rw [e0]; omega
  | ⟨1, _⟩ => show win0_1.index ⟨n, h⟩ (1 : Fin 2) * 1024 + 1 * (j 1).val = (j 1).val; rw [e1]; omega

/-- The block of weight columns read at an index: column `512 * (n % 13) + l` of the permuted weights. -/
theorem colsAt_apply (c : Dev nD) (n : ℕ) (h : n < cfg0.N) (j : S1024x512.Idx) (i : S1024x6656.Idx)
    (h0 : (i 0).val = (j 0).val) (h1 : (i 1).val = 512 * (n % 13) + (j 1).val) :
    colsAt m c n h j = (V m c main_v6 : Vec F S1024x6656 .bf16) i := by
  obtain ⟨-, -, -, -, e0, e1⟩ := index_facts ⟨n, h⟩
  unfold colsAt iblk
  rw [View.read_apply]
  show (V m c main_v6 : Vec F S1024x6656 .bf16) _ = (V m c main_v6 : Vec F S1024x6656 .bf16) _
  congr 1
  funext a
  apply Fin.ext
  match a with
  | ⟨0, _⟩ => show win0_2.index ⟨n, h⟩ (0 : Fin 2) * 1024 + 1 * (j 0).val = (i 0).val; rw [e0, h0]; omega
  | ⟨1, _⟩ => show win0_2.index ⟨n, h⟩ (1 : Fin 2) * 512 + 1 * (j 1).val = (i 1).val; rw [e1, h1]; dsimp only; omega

/-- Two points of one block of rows see the same rows. -/
theorem rowsAt_succ (c : Dev nD) (n : ℕ) (h : n + 1 < cfg0.N) (h0 : ¬(n + 1) % 13 = 0) :
    rowsAt m c n (Nat.lt_of_succ_lt h) = rowsAt m c (n + 1) h := by
  have hN : cfg0.N = 416 := N_0
  funext j
  have hj0 : (j 0).val < 512 := (j 0).isLt
  have hj1 : (j 1).val < 1024 := (j 1).isLt
  have hd : n / 13 = (n + 1) / 13 := by omega
  let i : S16384x1024.Idx := fun a => match a with
    | ⟨0, _⟩ => ⟨512 * (n / 13) + (j 0).val, by show _ < 16384; omega⟩
    | ⟨1, _⟩ => ⟨(j 1).val, hj1⟩
  rw [rowsAt_apply m c n _ j i rfl rfl, rowsAt_apply m c (n + 1) h j i (by show _ = 512 * ((n + 1) / 13) + _; rw [← hd]) rfl]

theorem gainAt_succ (c : Dev nD) (n : ℕ) (h : n + 1 < cfg0.N) :
    gainAt m c n (Nat.lt_of_succ_lt h) = gainAt m c (n + 1) h := by
  funext j
  rw [gainAt_apply, gainAt_apply]

/-- After any point the scratch holds the normalised rows of the point's block of rows. -/
theorem scratch_eq (c : Dev nD) (n : ℕ) (h : n < cfg0.N) :
    (outsAt0 m c n h).2 = k0_pay1 (rowsAt m c n h) (gainAt m c n h) := by
  induction n with
  | zero =>
    rw [outsAt0_A m c ⟨0, h⟩ rfl]
    dsimp only
    rw [sout_A]
  | succ n ih =>
    by_cases h0 : (n + 1) % 13 = 0
    · rw [outsAt0_A m c ⟨n + 1, h⟩ h0]
      dsimp only
      rw [sout_A]
    · rw [outsAt0_B m c ⟨n + 1, h⟩ h0]
      have e := ih (Nat.lt_of_succ_lt h)
      rw [rowsAt_succ m c n h h0, gainAt_succ] at e
      exact e

/-- After any point the output block holds the product of the normalised rows with the point's weight columns. -/
theorem out_eq (c : Dev nD) (n : ℕ) (h : n < cfg0.N) :
    (outsAt0 m c n h).1 = k0_pay2 (k0_pay1 (rowsAt m c n h) (gainAt m c n h)) (colsAt m c n h) := by
  by_cases h0 : n % 13 = 0
  · rw [outsAt0_A m c ⟨n, h⟩ h0]
    dsimp only
    rw [out_A]
  · rw [outsAt0_B m c ⟨n, h⟩ h0]
    obtain ⟨k, rfl⟩ : ∃ k, n = k + 1 := ⟨n - 1, by omega⟩
    have e : (outsAt0 m c k (Nat.lt_of_succ_lt h)).2 = k0_pay1 (rowsAt m c (k + 1) h) (gainAt m c (k + 1) h) := by
      rw [scratch_eq, rowsAt_succ m c k h h0, gainAt_succ]
    rw [← e]
    dsimp only
    rw [out_B]
    rfl

end Cert.InProj

end
-- ==== Proof.InProjValue.lean ====
/-
  The input projection over the extended reals: what the call's result array holds at an index, what the reference's
  holds there, and that the two are equal.
-/
module

public import proofs.«01_k».proof.Proof.InProjBlock
public import proofs.«01_k».proof.Proof.Gen.Reference2Ideal.Read
public import Idealize.ShloMosaic.Lib.Pointwise
public import Idealize.ShloMosaic.Lib.StableHlo.ReadAt

@[expose] public section

noncomputable section

namespace Cert.InProj

open Cert.Kernel2Ideal Cert.Kernel2Ideal.Gen Cert.Kernel2Ideal.Value Idealize.ShloMosaic Idealize.ShloMosaic.TcCoe Idealize.SL.Sem

/-- The column of the original weights that stands at column `l` of the call's: the columns from 4608 on are moved to
    the place before the 1536 columns from 3072 on. -/
def column (l : Fin 6656) : Fin 6656 :=
  if h : l.val < 3072 then l
  else if h' : l.val < 5120 then ⟨l.val + 1536, by omega⟩
  else ⟨l.val - 2048, by omega⟩

theorem column_val (l : Fin 6656) : (l.val < 3072 ∧ (column l).val = l.val)
    ∨ (3072 ≤ l.val ∧ l.val < 5120 ∧ (column l).val = l.val + 1536) ∨ (5120 ≤ l.val ∧ (column l).val = l.val - 2048) := by
  unfold column
  split
  · exact Or.inl ⟨by assumption, rfl⟩
  · split
    · exact Or.inr (Or.inl ⟨by omega, by assumption, rfl⟩)
    · exact Or.inr (Or.inr ⟨by omega, rfl⟩)

/-- A choice has a value when either side has. -/
theorem piece {p : Prop} [Decidable p] {a : p → EReal} {y : ¬p → EReal} {z : EReal}
    (h : ∀ h : p, a h = z) (h' : ∀ h : ¬p, y h = z) : (if h : p then a h else y h) = z := by
  split
  · exact h _
  · exact h' _

/-- One normalised row, read at a column: `x` scaled by the reciprocal root of its mean square, times the gain. -/
def normed (x g : Fin 1024 → EReal) (k : Fin 1024) : EReal :=
  x k * Ideal.rsqrt (Ideal.div (∑ l : Fin 1024, x l * x l) (Ideal.ofBits .f32 0x44800000#32)
    + Ideal.ofBits .f32 0x358637BD#32) * g k

set_option maxRecDepth 16384

section
variable (m : (ℓ : Loc nD τ sig) → Buf (Elt Ideal) ℓ) (c : Dev nD)

/-- The argument arrays. -/
abbrev argX : S4x4096x1024.Idx → EReal := (m ((c.tc : Thread nD τ).loc main_arg0) : Vec Ideal S4x4096x1024 .f32)
abbrev argG : S1x1024.Idx → EReal := (m ((c.tc : Thread nD τ).loc main_arg1) : Vec Ideal S1x1024 .f32)
abbrev argW : S1x1024x6656.Idx → EReal := (m ((c.tc : Thread nD τ).loc main_arg2) : Vec Ideal S1x1024x6656 .f32)

theorem rows_read (i : Fin 16384) (k : Fin 1024) :
    (V m c main_v0 : Vec Ideal S16384x1024 .f32) (ix2 i k)
      = argX m c (ix3 ⟨i.val / 4096, by omega⟩ ⟨i.val % 4096, by omega⟩ k) := by
  unfold V
  after_reads_at

theorem gain_read (k : Fin 1024) :
    (V m c main_v8 : Vec Ideal S1x1024 .f32) (ix2 0 k) = argG m c (ix2 0 k) := by
  unfold V
  after_reads_at

theorem cols_read (k : Fin 1024) (l : Fin 6656) :
    (V m c main_v6 : Vec Ideal S1024x6656 .bf16) (ix2 k l) = argW m c (ix3 0 k (column l)) := by
  unfold V
  after_reads_at
  unfold column
  split
  · after_reads_at
  · split
    · rw [dif_pos (by omega)]
      after_reads_at
      refine congrArg (fun l => argW m c (ix3 0 k l)) (Fin.ext ?_)
      show 4608 + (l.val - 3072) = l.val + 1536
      omega
    · rw [dif_neg (by omega)]
      after_reads_at
      refine congrArg (fun l => argW m c (ix3 0 k l)) (Fin.ext ?_)
      show 3072 + (l.val - 3072 - 2048) = l.val - 2048
      omega

theorem pay1_read (x : Vec Ideal S512x1024 .f32) (g : Vec Ideal S1x1024 .f32) (r : Fin 512) (k : Fin 1024) :
    k0_pay1 x g (ix2 r k) = normed (fun l => x (ix2 r l)) (fun l => g (ix2 0 l)) k := by
  unfold normed
  pointwise [k0_pay1]

theorem pay2_read (h : Vec Ideal S512x1024 .bf16) (w : Vec Ideal S1024x512 .bf16) (r l : Fin 512) :
    k0_pay2 h w (ix2 r l) = ∑ k : Fin 1024, (h (ix2 r k) : EReal) * w (ix2 k l) := by
  pointwise [k0_pay2]

/-- The result array. -/
def result : S16384x6656.Idx → EReal := G3 m c

/-- The result array at row `i` and column `l`: the normalised row times the weights' column. -/
theorem result_read (i : Fin 16384) (l : Fin 6656) :
    result m c (ix2 i l)
      = ∑ k : Fin 1024, normed (fun k => argX m c (ix3 ⟨i.val / 4096, by omega⟩ ⟨i.val % 4096, by omega⟩ k))
          (fun k => argG m c (ix2 0 k)) k * argW m c (ix3 0 k (column l)) := by
  have hN : cfg0.N = 416 := N_0
  have hp : pt3Of (ix2 i l) = 13 * (i.val / 512) + l.val / 512 := by
    show 13 * (i.val / 512 - 0) + 1 * (l.val / 512 - 0) = _
    omega
  have hp' : pt3Of (ix2 i l) < cfg0.N := by rw [hp, hN]; omega
  have hl : loc3Of (ix2 i l) = ix2 (⟨i.val % 512, by omega⟩ : Fin 512) (⟨l.val % 512, by omega⟩ : Fin 512) := by
    funext a
    match a with
    | ⟨0, _⟩ => rfl
    | ⟨1, _⟩ => rfl
  unfold result G3
  rw [dif_pos hp', hl, ← outsAt0_sweep m c (pt3Of (ix2 i l)) hp', out_eq, pay2_read]
  refine Finset.sum_congr rfl fun k _ => ?_
  rw [pay1_read, colsAt_apply m c _ _ _ (ix2 k l) rfl (by rw [hp]; show l.val = 512 * _ + l.val % 512; omega), cols_read]
  congr 2
  · funext k'
    rw [rowsAt_apply m c _ _ _ (ix2 i k') (by rw [hp]; show i.val = 512 * _ + i.val % 512; omega) rfl, rows_read]
  · funext k'
    rw [gainAt_apply, gain_read]

end

section
open Cert.Reference2Ideal.Read
/-- The reference's result at the same place. -/
theorem reference_read (x : S4x4096x1024.Idx → EReal) (g : S1x1024.Idx → EReal) (w : S1x1024x6656.Idx → EReal)
    (i : Fin 16384) (l : Fin 6656) :
    (val_main_v26 (F := Ideal) x g w) (ix2 i l)
      = ∑ k : Fin 1024, normed (fun k => x (ix3 ⟨i.val / 4096, by omega⟩ ⟨i.val % 4096, by omega⟩ k))
          (fun k => g (ix2 0 k)) k * w (ix3 0 k (column l)) := by
  have h15 : ∀ (a : Fin 4) (b : Fin 4096) (l : Fin 6656), (val_main_v15 (F := Ideal) x g w) (ix3 a b l)
      = ∑ k : Fin 1024, normed (fun k => x (ix3 a b k)) (fun k => g (ix2 0 k)) k * w (ix3 0 k l) := by
    intro a b l
    unfold normed
    pointwise [val_main_v15, val_main_v14, val_main_v13, val_main_v12, val_main_v11, val_main_v10, val_main_v9,
      val_main_v8, val_main_v7, val_main_v6, val_main_cst_1, val_main_v5, val_main_v4, val_main_cst_0, val_main_v3,
      val_main_v2, val_main_cst, val_main_v1, val_main_v0]
  rw [← h15]
  have hc := column_val l
  generalize column l = z at hc ⊢
  pointwise [val_main_v26, val_main_v25, val_main_v24, val_main_v23, val_main_v22, val_main_v21, val_main_v20,
    val_main_v19, val_main_v18, val_main_v17, val_main_v16]
  repeat' refine piece (fun h => ?_) (fun h => ?_)
  all_goals (refine congrArg (fun l => val_main_v15 (F := Ideal) x g w (ix3 _ _ l)) (Fin.ext ?_); first | omega | (dsimp only; omega))

/-- The call's result array is the reference's of the same arguments. -/
theorem result_eq (m : (ℓ : Loc nD τ sig) → Buf (Elt Ideal) ℓ) (c : Dev nD) :
    result m c = val_main_v26 (F := Ideal) (argX m c) (argG m c) (argW m c) := by
  funext j
  idx_vars j
  rw [result_read, reference_read]

end

end Cert.InProj

end
-- ==== Proof.MergeBlock.lean ====
/-
  What one grid point of the merge call leaves in its three output blocks, as the body's values of the point's input
  blocks.
-/
module

public import proofs.«01_k».proof.Proof.InProjValue
public import proofs.«01_k».proof.Proof.Gen.Kernel3Ideal.Value
public import Idealize.ShloMosaic.Lib.Tactic
public import Idealize.ShloMosaic.Lib.Pointwise
public import Idealize.ShloMosaic.Lib.Pipeline.ValueKit.Tiles

@[expose] public section

noncomputable section

namespace Cert.Merge

open Cert.Kernel3Ideal Cert.Kernel3Ideal.Gen Cert.Kernel3Ideal.Value Idealize.ShloMosaic Idealize.ShloMosaic.TcCoe Idealize.SL.Sem

variable {F : FTy → Type} [FloatOps F]
variable (m : (ℓ : Loc nD τ sig) → Buf (Elt F) ℓ)

/-- The point's input blocks: retention and attention rows, the two gates' columns of the projection, the residual rows,
    and the weights, which are whole. -/
abbrev retAt (c : Dev nD) (t : Fin cfg0.N) : Vec F S256x1024 .bf16 := iblk m c 0 t
abbrev attAt (c : Dev nD) (t : Fin cfg0.N) : Vec F S256x512 .bf16 := iblk m c 1 t
abbrev gateAAt (c : Dev nD) (t : Fin cfg0.N) : Vec F S256x1024 .f32 := X0_2 m c t
abbrev gateBAt (c : Dev nD) (t : Fin cfg0.N) : Vec F S256x1024 .f32 := X0_3 m c t
abbrev resAt (c : Dev nD) (t : Fin cfg0.N) : Vec F S256x1024 .f32 := iblk m c 4 t
abbrev wretAt (c : Dev nD) (t : Fin cfg0.N) : Vec F S1024x1024 .bf16 := iblk m c 5 t
abbrev wattAt (c : Dev nD) (t : Fin cfg0.N) : Vec F S512x1024 .bf16 := iblk m c 6 t
abbrev woutAt (c : Dev nD) (t : Fin cfg0.N) : Vec F S1024x1024 .bf16 := iblk m c 7 t
abbrev gainAt (c : Dev nD) (t : Fin cfg0.N) : Vec F S1x1024 .f32 := iblk m c 8 t
abbrev wqAt (c : Dev nD) (t : Fin cfg0.N) : Vec F S1024x2048 .bf16 := iblk m c 9 t
abbrev keysAt (c : Dev nD) (t : Fin cfg0.N) : Vec F S16x128x128 .bf16 := iblk m c 10 t

/-- The gated sum of the two branches. -/
abbrev mergedAt (c : Dev nD) (t : Fin cfg0.N) : FVec F S256x1024 .bf16 :=
  k0_pay2 (retAt m c t) (wretAt m c t) (attAt m c t) (wattAt m c t) (gateAAt m c t) (gateBAt m c t)

/-- The queries of the block's rows. -/
abbrev queriesAt (c : Dev nD) (t : Fin cfg0.N) : FVec F S256x2048 .f32 :=
  k0_pay6 (k0_pay1 (resAt m c t)) (mergedAt m c t) (k0_pay3 (woutAt m c t)) (constant S256x1024 .f32 0x00000000#32)
    (gainAt m c t) (wqAt m c t)

theorem out_x1 (c : Dev nD) (t : Fin cfg0.N) : (outsAt0 m c t).1
    = k0_pay4 (k0_pay1 (resAt m c t)) (mergedAt m c t) (k0_pay3 (woutAt m c t)) (constant S256x1024 .f32 0x00000000#32) := by
  unfold outsAt0
  dsimp only
  frame_out

theorem out_h2 (c : Dev nD) (t : Fin cfg0.N) : (outsAt0 m c t).2.1
    = k0_pay5 (k0_pay1 (resAt m c t)) (mergedAt m c t) (k0_pay3 (woutAt m c t)) (constant S256x1024 .f32 0x00000000#32)
      (gainAt m c t) := by
  unfold outsAt0
  dsimp only
  frame_out

/-- The scores of one group of 128 keys: the group's keys against the group's 128 columns of the queries. -/
def groupScores (q : FVec F S256x2048 .f32) (o : ℕ) (hs : S256x2048.Slices ![0, o] S256x128) (keys : Vec F S1x128x128 .bf16) :
    FVec F S128x256 .f32 :=
  matmul dot_S128x128_S256x128_S128x256_1_1_0_0_n_n none (shapeCast S128x128 keys shapeCasts_S1x128x128_S128x128)
    (truncf .bf16 (extractStridedSlice S256x128 ![0, o] q hs) bitsLt_bf16_f32) (constant S128x256 .f32 0x00000000#32)

set_option maxRecDepth 16384 in
theorem groupScores_read (q : Vec Ideal S256x2048 .f32) (keys : Vec Ideal S1x128x128 .bf16) (o : ℕ)
    (ho : o + 128 ≤ 2048) (hs : S256x2048.Slices ![0, o] S256x128) (n : Fin 128) (r : Fin 256) :
    groupScores q o hs keys (ix2 n r) = ∑ d : Fin 128, (keys (ix3 0 n d) : EReal) * q (ix2 r ⟨o + d.val, by omega⟩) := by
  pointwise [groupScores]

theorem group_slices (g : Fin 16) : S256x2048.Slices ![0, 128 * g.val] S256x128 := by
  revert g; decide

theorem group_inb (g : Fin 16) : ∀ a, (![g.val, 0, 0] : Fin 3 → ℕ) a + (![1, 128, 128] : Fin 3 → ℕ) a ≤ S16x128x128.size a := by
  revert g; decide

/-- The keys of one group. -/
abbrev groupKeys (keys : Vec F S16x128x128 .bf16) (g : Fin 16) : Vec F S1x128x128 .bf16 :=
  View.ld (Val := Elt F) keys (Rect.unit (s := S16x128x128) ![g.val, 0, 0] ![1, 128, 128] (group_inb g))

theorem out_scores (c : Dev nD) (t : Fin cfg0.N) (g : Fin 16) (y : S2048x256.Idx) (z : S128x256.Idx)
    (hy0 : (y 0).val = 128 * g.val + (z 0).val) (hy1 : (y 1).val = (z 1).val) : (outsAt0 m c t).2.2 y
      = groupScores (queriesAt m c t) (128 * g.val) (group_slices g) (groupKeys (keysAt m c t) g) z := by
  have hz : (z 0).val < 128 := (z 0).isLt
  unfold outsAt0
  dsimp only
  frame_out
  canon_tiles x h
  all_goals
    obtain rfl : x = z := by
      funext a
      apply Fin.ext
      match a with
      | ⟨0, _⟩ => show (x 0).val = (z 0).val; omega
      | ⟨1, _⟩ => show (x 1).val = (z 1).val; omega
    obtain ⟨g, hg⟩ := g
    dsimp only at hy0
    interval_cases g <;> first | (exfalso; omega) | rfl

end Cert.Merge

end
-- ==== Proof.MergeValue.lean ====
/-
  The merge call over the extended reals: what its three result arrays hold at an index, row by row.
-/
module

public import proofs.«01_k».proof.Proof.MergeBlock
public import proofs.«01_k».proof.Proof.Gen.Reference3Ideal.Read
public import Idealize.ShloMosaic.Lib.Pipeline.ValueKit.Geometry
public import Idealize.ShloMosaic.Lib.StableHlo.ReadAt

@[expose] public section

noncomputable section

namespace Cert.Merge

open Cert.Kernel3Ideal Cert.Kernel3Ideal.Gen Cert.Kernel3Ideal.Value Idealize.ShloMosaic Idealize.ShloMosaic.TcCoe Idealize.SL.Sem
open Cert.InProj (normed)

set_option maxRecDepth 16384

/-- The gate's weight. -/
def gate (v : EReal) : EReal := Ideal.div 1 (1 + Ideal.exp (-v))

/-- The gated sum of a row's two branches, read at a column. -/
def gated (ret : Fin 1024 → EReal) (att : Fin 512 → EReal) (ga gb : Fin 1024 → EReal) (wa : Fin 1024 → Fin 1024 → EReal)
    (wb : Fin 512 → Fin 1024 → EReal) (k : Fin 1024) : EReal :=
  gate (ga k) * (∑ l : Fin 1024, ret l * wa l k) + gate (gb k) * ∑ l : Fin 512, att l * wb l k

/-- A row with the projected merge added. -/
def summed (x mg : Fin 1024 → EReal) (wo : Fin 1024 → Fin 1024 → EReal) (k : Fin 1024) : EReal :=
  x k + ∑ l : Fin 1024, mg l * wo l k

/-- A row's query. -/
def query (h : Fin 1024 → EReal) (wq : Fin 1024 → Fin 2048 → EReal) (j : Fin 2048) : EReal := ∑ k : Fin 1024, h k * wq k j

theorem pay2_read (ret : Vec Ideal S256x1024 .bf16) (wa : Vec Ideal S1024x1024 .bf16) (att : Vec Ideal S256x512 .bf16)
    (wb : Vec Ideal S512x1024 .bf16) (ga gb : Vec Ideal S256x1024 .f32) (r : Fin 256) (k : Fin 1024) :
    k0_pay2 ret wa att wb ga gb (ix2 r k) = gated (fun l => ret (ix2 r l)) (fun l => att (ix2 r l)) (fun l => ga (ix2 r l))
      (fun l => gb (ix2 r l)) (fun l k => wa (ix2 l k)) (fun l k => wb (ix2 l k)) k := by
  unfold gated gate
  pointwise [k0_pay2]
  simp only [sub_eq_add_neg, zero_add]

theorem pay4_read (x : Vec Ideal S256x1024 .f32) (mg : Vec Ideal S256x1024 .bf16) (wo : Vec Ideal S1024x1024 .bf16)
    (r : Fin 256) (k : Fin 1024) :
    k0_pay4 (k0_pay1 x) mg (k0_pay3 wo) (constant S256x1024 .f32 0x00000000#32) (ix2 r k)
      = summed (fun l => x (ix2 r l)) (fun l => mg (ix2 r l)) (fun l k => wo (ix2 l k)) k := by
  unfold summed
  pointwise [k0_pay4, k0_pay1, k0_pay3]

theorem pay5_read (x : Vec Ideal S256x1024 .f32) (mg : Vec Ideal S256x1024 .bf16) (wo : Vec Ideal S1024x1024 .bf16)
    (g : Vec Ideal S1x1024 .f32) (r : Fin 256) (k : Fin 1024) :
    k0_pay5 (k0_pay1 x) mg (k0_pay3 wo) (constant S256x1024 .f32 0x00000000#32) g (ix2 r k)
      = normed (summed (fun l => x (ix2 r l)) (fun l => mg (ix2 r l)) (fun l k => wo (ix2 l k))) (fun l => g (ix2 0 l)) k := by
  unfold normed
  simp only [← pay4_read]
  generalize hy : k0_pay4 (k0_pay1 x) mg (k0_pay3 wo) (constant S256x1024 .f32 0x00000000#32) = y
  unfold k0_pay5
  rw [hy]
  pointwise

theorem pay6_read (x : Vec Ideal S256x1024 .f32) (mg : Vec Ideal S256x1024 .bf16) (wo : Vec Ideal S1024x1024 .bf16)
    (g : Vec Ideal S1x1024 .f32) (wq : Vec Ideal S1024x2048 .bf16) (r : Fin 256) (j : Fin 2048) :
    k0_pay6 (k0_pay1 x) mg (k0_pay3 wo) (constant S256x1024 .f32 0x00000000#32) g wq (ix2 r j)
      = query (normed (summed (fun l => x (ix2 r l)) (fun l => mg (ix2 r l)) (fun l k => wo (ix2 l k))) (fun l => g (ix2 0 l)))
          (fun k j => wq (ix2 k j)) j := by
  unfold query
  simp only [← pay5_read]
  unfold k0_pay6
  generalize k0_pay5 (k0_pay1 x) mg (k0_pay3 wo) (constant S256x1024 .f32 0x00000000#32) g = y
  pointwise

section
variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 3] := (by decide +kernel : ∀ t : Fin grid0.N, _)
theorem idx3 : ∀ t : Fin cfg0.N, win0_3.index t = ![t.val, 4] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![0, t.val] := (by decide +kernel : ∀ t : Fin grid0.N, _)

theorem retAt_apply (t : Fin cfg0.N) (r : Fin 256) (k : Fin 1024) (i : Fin 16384) (hi : i.val = 256 * t.val + r.val) :
    retAt m c t (ix2 r k) = (V m c main_v1 : Vec Ideal S16384x1024 .bf16) (ix2 i k) := by
  unfold retAt
  blk_simp [iblk, idx0]
  exact congrArg _ (by blk_ext [idx0])

theorem attAt_apply (t : Fin cfg0.N) (r : Fin 256) (k : Fin 512) (i : Fin 16384) (hi : i.val = 256 * t.val + r.val) :
    attAt m c t (ix2 r k) = (V m c main_v2 : Vec Ideal S16384x512 .bf16) (ix2 i k) := by
  unfold attAt
  blk_simp [iblk, idx1]
  exact congrArg _ (by blk_ext [idx1])

theorem gateAAt_apply (t : Fin cfg0.N) (r : Fin 256) (k : Fin 1024) (i : Fin 16384) (hi : i.val = 256 * t.val + r.val) :
    gateAAt m c t (ix2 r k) = (V m c main_arg2 : Vec Ideal S16384x6656 .f32) (ix2 i ⟨3072 + k.val, by omega⟩) := by
  unfold gateAAt X0_2 Pipeline.Window.fill
  rw [dif_pos (moved0_2 t _)]
  blk_simp [iblk, idx2]
  exact congrArg _ (by blk_ext [idx2])

theorem gateBAt_apply (t : Fin cfg0.N) (r : Fin 256) (k : Fin 1024) (i : Fin 16384) (hi : i.val = 256 * t.val + r.val) :
    gateBAt m c t (ix2 r k) = (V m c main_arg2 : Vec Ideal S16384x6656 .f32) (ix2 i ⟨4096 + k.val, by omega⟩) := by
  unfold gateBAt X0_3 Pipeline.Window.fill
  rw [dif_pos (moved0_3 t _)]
  blk_simp [iblk, idx3]
  exact congrArg _ (by blk_ext [idx3])

theorem resAt_apply (t : Fin cfg0.N) (r : Fin 256) (k : Fin 1024) (i : Fin 16384) (hi : i.val = 256 * t.val + r.val) :
    resAt m c t (ix2 r k) = (V m c main_v0 : Vec Ideal S16384x1024 .f32) (ix2 i k) := by
  unfold resAt
  blk_simp [iblk, idx4]
  exact congrArg _ (by blk_ext [idx4])

theorem wretAt_apply (t : Fin cfg0.N) (l k : Fin 1024) :
    wretAt m c t (ix2 l k) = (V m c main_v7 : Vec Ideal S1024x1024 .bf16) (ix2 l k) := by
  unfold wretAt
  blk_simp [iblk, idx5]
  exact congrArg _ (by blk_ext [idx5])

theorem wattAt_apply (t : Fin cfg0.N) (l : Fin 512) (k : Fin 1024) :
    wattAt m c t (ix2 l k) = (V m c main_v9 : Vec Ideal S512x1024 .bf16) (ix2 l k) := by
  unfold wattAt
  blk_simp [iblk, idx6]
  exact congrArg _ (by blk_ext [idx6])

theorem woutAt_apply (t : Fin cfg0.N) (l k : Fin 1024) :
    woutAt m c t (ix2 l k) = (V m c main_v11 : Vec Ideal S1024x1024 .bf16) (ix2 l k) := by
  unfold woutAt
  blk_simp [iblk, idx7]
  exact congrArg _ (by blk_ext [idx7])

theorem gainAt_apply (t : Fin cfg0.N) (k : Fin 1024) :
    gainAt m c t (ix2 0 k) = (V m c main_v13 : Vec Ideal S1x1024 .f32) (ix2 0 k) := by
  unfold gainAt
  blk_simp [iblk, idx8]
  exact congrArg _ (by blk_ext [idx8])

theorem wqAt_apply (t : Fin cfg0.N) (l : Fin 1024) (k : Fin 2048) :
    wqAt m c t (ix2 l k) = (V m c main_v15 : Vec Ideal S1024x2048 .bf16) (ix2 l k) := by
  unfold wqAt
  blk_simp [iblk, idx9]
  exact congrArg _ (by blk_ext [idx9])

theorem keysAt_apply (t : Fin cfg0.N) (g : Fin 16) (n d : Fin 128) :
    keysAt m c t (ix3 g n d) = (V m c main_v5 : Vec Ideal S16x128x128 .bf16) (ix3 g n d) := by
  unfold keysAt
  blk_simp [iblk, idx10]
  exact congrArg _ (by blk_ext [idx10])

/-! ### The arguments of the call. -/

def argRet : Vec Ideal S4x4096x1024 .bf16 := m (c, Proc.tc.devRef main_arg0)
def argAtt : Vec Ideal S4x4096x512 .bf16 := m (c, Proc.tc.devRef main_arg1)
def argProj : Vec Ideal S16384x6656 .f32 := m (c, Proc.tc.devRef main_arg2)
def argX : Vec Ideal S4x4096x1024 .f32 := m (c, Proc.tc.devRef main_arg3)
def argWret : Vec Ideal S1x1024x1024 .f32 := m (c, Proc.tc.devRef main_arg4)
def argWatt : Vec Ideal S1x512x1024 .f32 := m (c, Proc.tc.devRef main_arg5)
def argWout : Vec Ideal S1x1024x1024 .f32 := m (c, Proc.tc.devRef main_arg6)
def argGain : Vec Ideal S1x1024 .f32 := m (c, Proc.tc.devRef main_arg7)
def argWq : Vec Ideal S1x1024x2048 .f32 := m (c, Proc.tc.devRef main_arg8)
def argKeys : Vec Ideal S1x8x2x128x128 .f32 := m (c, Proc.tc.devRef main_arg9)

theorem ret_read (b : Fin 4) (s : Fin 4096) (k : Fin 1024) (i : Fin 16384) (hi : i.val = 4096 * b.val + s.val) :
    (V m c main_v1 : Vec Ideal S16384x1024 .bf16) (ix2 i k) = argRet m c (ix3 b s k) := by
  rw [show i = ⟨4096 * b.val + s.val, by omega⟩ from Fin.ext hi]
  unfold V
  after_reads_at
  rfl

theorem att_read (b : Fin 4) (s : Fin 4096) (k : Fin 512) (i : Fin 16384) (hi : i.val = 4096 * b.val + s.val) :
    (V m c main_v2 : Vec Ideal S16384x512 .bf16) (ix2 i k) = argAtt m c (ix3 b s k) := by
  rw [show i = ⟨4096 * b.val + s.val, by omega⟩ from Fin.ext hi]
  unfold V
  after_reads_at
  rfl

theorem proj_read (i : Fin 16384) (k : Fin 6656) :
    (V m c main_arg2 : Vec Ideal S16384x6656 .f32) (ix2 i k) = argProj m c (ix2 i k) := by
  unfold V
  after_reads_at
  rfl

theorem res_read (b : Fin 4) (s : Fin 4096) (k : Fin 1024) (i : Fin 16384) (hi : i.val = 4096 * b.val + s.val) :
    (V m c main_v0 : Vec Ideal S16384x1024 .f32) (ix2 i k) = argX m c (ix3 b s k) := by
  rw [show i = ⟨4096 * b.val + s.val, by omega⟩ from Fin.ext hi]
  unfold V
  after_reads_at
  rfl

theorem wret_read (l k : Fin 1024) : (V m c main_v7 : Vec Ideal S1024x1024 .bf16) (ix2 l k) = argWret m c (ix3 0 l k) := by
  unfold V
  after_reads_at
  rfl

theorem watt_read (l : Fin 512) (k : Fin 1024) :
    (V m c main_v9 : Vec Ideal S512x1024 .bf16) (ix2 l k) = argWatt m c (ix3 0 l k) := by
  unfold V
  after_reads_at
  rfl

theorem wout_read (l k : Fin 1024) : (V m c main_v11 : Vec Ideal S1024x1024 .bf16) (ix2 l k) = argWout m c (ix3 0 l k) := by
  unfold V
  after_reads_at
  rfl

theorem gain_read (k : Fin 1024) : (V m c main_v13 : Vec Ideal S1x1024 .f32) (ix2 0 k) = argGain m c (ix2 0 k) := by
  unfold V
  after_reads_at
  rfl

theorem wq_read (l : Fin 1024) (k : Fin 2048) :
    (V m c main_v15 : Vec Ideal S1024x2048 .bf16) (ix2 l k) = argWq m c (ix3 0 l k) := by
  unfold V
  after_reads_at
  rfl

theorem keys_read (g : Fin 16) (n d : Fin 128) : (V m c main_v5 : Vec Ideal S16x128x128 .bf16) (ix3 g n d)
    = argKeys m c (ix5 0 ⟨g.val / 2, by omega⟩ ⟨g.val % 2, by omega⟩ n d) := by
  unfold V
  after_reads_at
  rfl

end

/-! ### The rows of the three results, of the arguments' arrays. -/

section
variable (x0 : Vec Ideal S4x4096x1024 .bf16) (x1 : Vec Ideal S4x4096x512 .bf16) (x2 : Vec Ideal S16384x6656 .f32)
  (x3 : Vec Ideal S4x4096x1024 .f32) (x4 : Vec Ideal S1x1024x1024 .f32) (x5 : Vec Ideal S1x512x1024 .f32)
  (x6 : Vec Ideal S1x1024x1024 .f32) (x7 : Vec Ideal S1x1024 .f32) (x8 : Vec Ideal S1x1024x2048 .f32)
  (x9 : Vec Ideal S1x8x2x128x128 .f32)

/-- The gated branches of sequence `b`, position `s`. -/
def rowGated (b : Fin 4) (s : Fin 4096) : Fin 1024 → EReal :=
  gated (fun l => x0 (ix3 b s l)) (fun l => x1 (ix3 b s l))
    (fun l => x2 (ix2 (⟨4096 * b.val + s.val, by omega⟩ : Fin 16384) (⟨3072 + l.val, by omega⟩ : Fin 6656)))
    (fun l => x2 (ix2 (⟨4096 * b.val + s.val, by omega⟩ : Fin 16384) (⟨4096 + l.val, by omega⟩ : Fin 6656)))
    (fun l k => x4 (ix3 0 l k)) (fun l k => x5 (ix3 0 l k))

/-- The residual row after the merge. -/
def rowSum (b : Fin 4) (s : Fin 4096) : Fin 1024 → EReal :=
  summed (fun l => x3 (ix3 b s l)) (rowGated x0 x1 x2 x4 x5 b s) (fun l k => x6 (ix3 0 l k))

/-- That row normed. -/
def rowNorm (b : Fin 4) (s : Fin 4096) : Fin 1024 → EReal :=
  normed (rowSum x0 x1 x2 x3 x4 x5 x6 b s) (fun l => x7 (ix2 0 l))

/-- Its queries. -/
def rowQuery (b : Fin 4) (s : Fin 4096) : Fin 2048 → EReal :=
  query (rowNorm x0 x1 x2 x3 x4 x5 x6 x7 b s) (fun l k => x8 (ix3 0 l k))

/-- Its score with key `n` of group `g`. -/
def rowScore (g : Fin 16) (n : Fin 128) (b : Fin 4) (s : Fin 4096) : EReal :=
  ∑ d : Fin 128, x9 (ix5 0 (⟨g.val / 2, by omega⟩ : Fin 8) (⟨g.val % 2, by omega⟩ : Fin 2) n d)
    * rowQuery x0 x1 x2 x3 x4 x5 x6 x7 x8 b s ⟨128 * g.val + d.val, by omega⟩

end

section
variable (m : (ℓ : Loc nD τ sig) → Buf (Elt Ideal) ℓ) (c : Dev nD)

theorem ret_at (t : Fin cfg0.N) (r : Fin 256) (b : Fin 4) (s : Fin 4096) (hi : 256 * t.val + r.val = 4096 * b.val + s.val)
    (k : Fin 1024) : retAt m c t (ix2 r k) = argRet m c (ix3 b s k) :=
  (retAt_apply m c t r k ⟨4096 * b.val + s.val, by omega⟩ hi.symm).trans (ret_read m c b s k _ rfl)

theorem att_at (t : Fin cfg0.N) (r : Fin 256) (b : Fin 4) (s : Fin 4096) (hi : 256 * t.val + r.val = 4096 * b.val + s.val)
    (k : Fin 512) : attAt m c t (ix2 r k) = argAtt m c (ix3 b s k) :=
  (attAt_apply m c t r k ⟨4096 * b.val + s.val, by omega⟩ hi.symm).trans (att_read m c b s k _ rfl)

theorem res_at (t : Fin cfg0.N) (r : Fin 256) (b : Fin 4) (s : Fin 4096) (hi : 256 * t.val + r.val = 4096 * b.val + s.val)
    (k : Fin 1024) : resAt m c t (ix2 r k) = argX m c (ix3 b s k) :=
  (resAt_apply m c t r k ⟨4096 * b.val + s.val, by omega⟩ hi.symm).trans (res_read m c b s k _ rfl)

theorem gateA_at (t : Fin cfg0.N) (r : Fin 256) (i : Fin 16384) (hi : i.val = 256 * t.val + r.val) (k : Fin 1024) :
    gateAAt m c t (ix2 r k) = argProj m c (ix2 i ⟨3072 + k.val, by omega⟩) :=
  (gateAAt_apply m c t r k i hi).trans (proj_read m c _ _)

theorem gateB_at (t : Fin cfg0.N) (r : Fin 256) (i : Fin 16384) (hi : i.val = 256 * t.val + r.val) (k : Fin 1024) :
    gateBAt m c t (ix2 r k) = argProj m c (ix2 i ⟨4096 + k.val, by omega⟩) :=
  (gateBAt_apply m c t r k i hi).trans (proj_read m c _ _)

theorem wret_at (t : Fin cfg0.N) (l k : Fin 1024) : wretAt m c t (ix2 l k) = argWret m c (ix3 0 l k) :=
  (wretAt_apply m c t l k).trans (wret_read m c l k)

theorem watt_at (t : Fin cfg0.N) (l : Fin 512) (k : Fin 1024) : wattAt m c t (ix2 l k) = argWatt m c (ix3 0 l k) :=
  (wattAt_apply m c t l k).trans (watt_read m c l k)

theorem wout_at (t : Fin cfg0.N) (l k : Fin 1024) : woutAt m c t (ix2 l k) = argWout m c (ix3 0 l k) :=
  (woutAt_apply m c t l k).trans (wout_read m c l k)

theorem gain_at (t : Fin cfg0.N) (k : Fin 1024) : gainAt m c t (ix2 0 k) = argGain m c (ix2 0 k) :=
  (gainAt_apply m c t k).trans (gain_read m c k)

theorem wq_at (t : Fin cfg0.N) (l : Fin 1024) (k : Fin 2048) : wqAt m c t (ix2 l k) = argWq m c (ix3 0 l k) :=
  (wqAt_apply m c t l k).trans (wq_read m c l k)

theorem keys_at (t : Fin cfg0.N) (g : Fin 16) (n d : Fin 128) : keysAt m c t (ix3 g n d)
    = argKeys m c (ix5 0 ⟨g.val / 2, by omega⟩ ⟨g.val % 2, by omega⟩ n d) :=
  (keysAt_apply m c t g n d).trans (keys_read m c g n d)

theorem groupKeys_read (keys : Vec Ideal S16x128x128 .bf16) (g : Fin 16) (n d : Fin 128) :
    groupKeys keys g (ix3 0 n d) = keys (ix3 g n d) := by
  refine View.ld_unit_apply_of keys _ _ _ _ _ fun a => ?_
  fin_cases a <;> simp [ix3_0, ix3_1, ix3_2]

theorem merged_row (t : Fin cfg0.N) (r : Fin 256) (b : Fin 4) (s : Fin 4096) (hi : 256 * t.val + r.val = 4096 * b.val + s.val)
    (k : Fin 1024) : mergedAt m c t (ix2 r k) = rowGated (argRet m c) (argAtt m c) (argProj m c) (argWret m c) (argWatt m c) b s k := by
  have e : (⟨4096 * b.val + s.val, by omega⟩ : Fin 16384).val = 256 * t.val + r.val := hi.symm
  unfold mergedAt rowGated
  rw [pay2_read]
  simp only [ret_at m c t r b s hi, att_at m c t r b s hi, gateA_at m c t r _ e, gateB_at m c t r _ e, wret_at, watt_at]

theorem sum_row (t : Fin cfg0.N) (r : Fin 256) (b : Fin 4) (s : Fin 4096) (hi : 256 * t.val + r.val = 4096 * b.val + s.val) :
    summed (fun l => resAt m c t (ix2 r l)) (fun l => mergedAt m c t (ix2 r l)) (fun l k => woutAt m c t (ix2 l k))
      = rowSum (argRet m c) (argAtt m c) (argProj m c) (argX m c) (argWret m c) (argWatt m c) (argWout m c) b s := by
  unfold rowSum
  simp only [merged_row m c t r b s hi, res_at m c t r b s hi, wout_at]

theorem norm_row (t : Fin cfg0.N) (r : Fin 256) (b : Fin 4) (s : Fin 4096) (hi : 256 * t.val + r.val = 4096 * b.val + s.val) :
    normed (summed (fun l => resAt m c t (ix2 r l)) (fun l => mergedAt m c t (ix2 r l)) (fun l k => woutAt m c t (ix2 l k)))
        (fun l => gainAt m c t (ix2 0 l))
      = rowNorm (argRet m c) (argAtt m c) (argProj m c) (argX m c) (argWret m c) (argWatt m c) (argWout m c) (argGain m c) b s := by
  unfold rowNorm
  simp only [sum_row m c t r b s hi, gain_at]

theorem query_row (t : Fin cfg0.N) (r : Fin 256) (b : Fin 4) (s : Fin 4096) (hi : 256 * t.val + r.val = 4096 * b.val + s.val)
    (j : Fin 2048) : queriesAt m c t (ix2 r j)
      = rowQuery (argRet m c) (argAtt m c) (argProj m c) (argX m c) (argWret m c) (argWatt m c) (argWout m c) (argGain m c)
          (argWq m c) b s j := by
  unfold queriesAt rowQuery
  rw [pay6_read]
  simp only [norm_row m c t r b s hi, wq_at]

/-- The rows after the merge, as an array of rows. -/
def sums : S16384x1024.Idx → EReal := fun y =>
  rowSum (argRet m c) (argAtt m c) (argProj m c) (argX m c) (argWret m c) (argWatt m c) (argWout m c)
    ⟨(y 0).val / 4096, by idx_bounds y; omega⟩ ⟨(y 0).val % 4096, Nat.mod_lt _ (by omega)⟩ (y 1)

/-- The normed rows. -/
def norms : S16384x1024.Idx → EReal := fun y =>
  rowNorm (argRet m c) (argAtt m c) (argProj m c) (argX m c) (argWret m c) (argWatt m c) (argWout m c) (argGain m c)
    ⟨(y 0).val / 4096, by idx_bounds y; omega⟩ ⟨(y 0).val % 4096, Nat.mod_lt _ (by omega)⟩ (y 1)

/-- The scores: a key's row, a position's column. -/
def scores : S2048x16384.Idx → EReal := fun y =>
  rowScore (argRet m c) (argAtt m c) (argProj m c) (argX m c) (argWret m c) (argWatt m c) (argWout m c) (argGain m c)
    (argWq m c) (argKeys m c) ⟨(y 0).val / 128, by idx_bounds y; omega⟩ ⟨(y 0).val % 128, Nat.mod_lt _ (by omega)⟩
    ⟨(y 1).val / 4096, by idx_bounds y; omega⟩ ⟨(y 1).val % 4096, Nat.mod_lt _ (by omega)⟩

theorem sums_eq : (dats m 0 c).arrAt 11 cfg0.N = sums m c := by
  refine (dats m 0 c).arrAt_eq_of_covers 11 (sums m c) (by decide +kernel) fun t hf y => ?_
  blk_simp [idx11]
  rw [after0_11]
  obtain ⟨r, k, rfl⟩ : ∃ (r : Fin 256) (k : Fin 1024), (y : S256x1024.Idx) = ix2 r k := ⟨y 0, y 1, eq_ix2 y⟩
  have ht : t.val < 64 := t.isLt
  have e : (win0_11.blk t).view.emb (ix2 r k) = ix2 (⟨256 * t.val + r.val, by omega⟩ : Fin 16384) k := by blk_ext [idx11]
  refine Eq.trans ?_ (congrArg (sums m c) e.symm)
  refine (congrFun (out_x1 m c t) (ix2 r k)).trans ?_
  rw [pay4_read]
  exact congrFun (sum_row m c t r _ _ (by dsimp only [ix2_0]; omega)) k

theorem norms_eq : (dats m 0 c).arrAt 12 cfg0.N = norms m c := by
  refine (dats m 0 c).arrAt_eq_of_covers 12 (norms m c) (by decide +kernel) fun t hf y => ?_
  blk_simp [idx12]
  rw [after0_12]
  obtain ⟨r, k, rfl⟩ : ∃ (r : Fin 256) (k : Fin 1024), (y : S256x1024.Idx) = ix2 r k := ⟨y 0, y 1, eq_ix2 y⟩
  have ht : t.val < 64 := t.isLt
  have e : (win0_12.blk t).view.emb (ix2 r k) = ix2 (⟨256 * t.val + r.val, by omega⟩ : Fin 16384) k := by blk_ext [idx12]
  refine Eq.trans ?_ (congrArg (norms m c) e.symm)
  refine (congrFun (out_h2 m c t) (ix2 r k)).trans ?_
  rw [pay5_read]
  exact congrFun (norm_row m c t r _ _ (by dsimp only [ix2_0]; omega)) k

theorem scores_eq : (dats m 0 c).arrAt 13 cfg0.N = scores m c := by
  refine (dats m 0 c).arrAt_eq_of_covers 13 (scores m c) (by decide +kernel) fun t hf y => ?_
  blk_simp [idx13]
  rw [after0_13]
  obtain ⟨a, r, rfl⟩ : ∃ (a : Fin 2048) (r : Fin 256), (y : S2048x256.Idx) = ix2 a r := ⟨y 0, y 1, eq_ix2 y⟩
  have ht : t.val < 64 := t.isLt
  have e : (win0_13.blk t).view.emb (ix2 a r) = ix2 a (⟨256 * t.val + r.val, by omega⟩ : Fin 16384) := by blk_ext [idx13]
  refine Eq.trans ?_ (congrArg (scores m c) e.symm)
  refine (out_scores m c t (⟨a.val / 128, by omega⟩ : Fin 16) (ix2 a r) (ix2 (⟨a.val % 128, by omega⟩ : Fin 128) r)
    (by dsimp only [ix2_0]; omega) rfl).trans ?_
  refine (groupScores_read (queriesAt m c t) _ (128 * (a.val / 128)) (by omega) _ (⟨a.val % 128, by omega⟩ : Fin 128) r).trans ?_
  show _ = rowScore _ _ _ _ _ _ _ _ _ _ (⟨a.val / 128, by omega⟩ : Fin 16) (⟨a.val % 128, by omega⟩ : Fin 128) _ _
  unfold rowScore
  refine Finset.sum_congr (ι := Fin 128) (M := EReal) rfl fun d _ => ?_
  refine congrArg₂ (fun u v : EReal => u * v) ?_ (query_row m c t r _ _ (by dsimp only [ix2_1]; omega) _)
  exact (groupKeys_read _ _ _ _).trans (keys_at m c t _ _ d)

end

end Cert.Merge

end
-- ==== Proof.MergeReference.lean ====
/-
  The merge call's reference, read at an index: each of its stages is the row function of MergeValue, so its three results are
  the arrays that the call leaves.
-/
module

public import proofs.«01_k».proof.Proof.MergeValue

@[expose] public section

noncomputable section

namespace Cert.Merge

open Cert.Reference3Ideal Cert.Reference3Ideal.Read Idealize.ShloMosaic Idealize.ShloMosaic.TcCoe Idealize.SL.Sem
open Cert.InProj (normed)

set_option maxRecDepth 16384

section
variable (x0 : S4x4096x1024.Idx → EReal) (x1 : S4x4096x512.Idx → EReal) (x2 : S16384x6656.Idx → EReal)
  (x3 : S4x4096x1024.Idx → EReal) (x4 : S1x1024x1024.Idx → EReal) (x5 : S1x512x1024.Idx → EReal)
  (x6 : S1x1024x1024.Idx → EReal) (x7 : S1x1024.Idx → EReal) (x8 : S1x1024x2048.Idx → EReal)
  (x9 : S1x8x2x128x128.Idx → EReal)

theorem ref_gated (b : Fin 4) (s : Fin 4096) (k : Fin 1024) :
    (val_main_v23 (F := Ideal) x0 x1 x2 x4 x5) (ix3 b s k) = rowGated x0 x1 x2 x4 x5 b s k := by
  unfold rowGated gated gate
  pointwise [val_main_v23, val_main_v22, val_main_v21, val_main_v20, val_main_cst_2, val_main_v19, val_main_v18, val_main_cst_1,
    val_main_v17, val_main_v16, val_main_v15, val_main_v14, val_main_v13, val_main_cst_0, val_main_v12, val_main_v11,
    val_main_cst, val_main_v10, val_main_v9, val_main_v8, val_main_v7, val_main_v6, val_main_v5, val_main_v4, val_main_v3,
    val_main_v2, val_main_v1, val_main_v0]
  simp only [Nat.mul_comm b.val 4096]

theorem ref_sum (b : Fin 4) (s : Fin 4096) (k : Fin 1024) :
    (val_main_v26 (F := Ideal) x0 x1 x2 x3 x4 x5 x6) (ix3 b s k) = rowSum x0 x1 x2 x3 x4 x5 x6 b s k := by
  unfold rowSum summed
  simp only [← ref_gated]
  pointwise [val_main_v26, val_main_v25, val_main_v24]

theorem ref_norm (b : Fin 4) (s : Fin 4096) (k : Fin 1024) :
    (val_main_v40 (F := Ideal) x0 x1 x2 x3 x4 x5 x6 x7) (ix3 b s k) = rowNorm x0 x1 x2 x3 x4 x5 x6 x7 b s k := by
  unfold rowNorm normed
  simp only [← ref_sum]
  pointwise [val_main_v40, val_main_v39, val_main_v38, val_main_v37, val_main_v36, val_main_v35, val_main_v34, val_main_v33,
    val_main_v32, val_main_v31, val_main_v30, val_main_v29, val_main_v28, val_main_v27, val_main_cst_3, val_main_cst_4,
    val_main_cst_5]

theorem ref_query (i : Fin 16384) (j : Fin 2048) :
    (val_main_v43 (F := Ideal) x0 x1 x2 x3 x4 x5 x6 x7 x8) (ix2 i j)
      = rowQuery x0 x1 x2 x3 x4 x5 x6 x7 x8 ⟨i.val / 4096, by omega⟩ ⟨i.val % 4096, by omega⟩ j := by
  unfold rowQuery query
  simp only [← ref_norm]
  pointwise [val_main_v43, val_main_v42, val_main_v41]

theorem ref_score (g : Fin 8) (h : Fin 2) (n : Fin 128) (i : Fin 16384) :
    (val_main_v46 (F := Ideal) x0 x1 x2 x3 x4 x5 x6 x7 x8 x9) (ix4 g h n i)
      = rowScore x0 x1 x2 x3 x4 x5 x6 x7 x8 x9 ⟨2 * g.val + h.val, by omega⟩ n ⟨i.val / 4096, by omega⟩ ⟨i.val % 4096, by omega⟩ := by
  unfold rowScore
  simp only [← ref_query]
  pointwise [val_main_v46, val_main_v45, val_main_v44]
  refine Finset.sum_congr rfl fun d _ => ?_
  refine congrArg₂ (fun u v : EReal => u * v) (congrArg₂ (fun a b => x9 (ix5 0 a b n d)) (Fin.ext ?_) (Fin.ext ?_))
    (congrArg (fun l => val_main_v43 (F := Ideal) x0 x1 x2 x3 x4 x5 x6 x7 x8 (ix2 i l)) (Fin.ext ?_)) <;> (dsimp only; omega)

theorem ref_sums : (val_main_v48 (F := Ideal) x0 x1 x2 x3 x4 x5 x6) = fun y : S16384x1024.Idx =>
    rowSum x0 x1 x2 x3 x4 x5 x6 ⟨(y 0).val / 4096, by idx_bounds y; omega⟩ ⟨(y 0).val % 4096, Nat.mod_lt _ (by omega)⟩ (y 1) := by
  funext y
  idx_vars y
  simp only [← ref_sum]
  pointwise [val_main_v48]

theorem ref_norms : (val_main_v49 (F := Ideal) x0 x1 x2 x3 x4 x5 x6 x7) = fun y : S16384x1024.Idx =>
    rowNorm x0 x1 x2 x3 x4 x5 x6 x7 ⟨(y 0).val / 4096, by idx_bounds y; omega⟩ ⟨(y 0).val % 4096, Nat.mod_lt _ (by omega)⟩
      (y 1) := by
  funext y
  idx_vars y
  simp only [← ref_norm]
  pointwise [val_main_v49, val_main_v41]

theorem ref_scores : (val_main_v51 (F := Ideal) x0 x1 x2 x3 x4 x5 x6 x7 x8 x9) = fun y : S2048x16384.Idx =>
    rowScore x0 x1 x2 x3 x4 x5 x6 x7 x8 x9 ⟨(y 0).val / 128, by idx_bounds y; omega⟩ ⟨(y 0).val % 128, Nat.mod_lt _ (by omega)⟩
      ⟨(y 1).val / 4096, by idx_bounds y; omega⟩ ⟨(y 1).val % 4096, Nat.mod_lt _ (by omega)⟩ := by
  funext y
  obtain ⟨a, i, rfl⟩ : ∃ (a : Fin 2048) (i : Fin 16384), y = ix2 a i := ⟨y 0, y 1, eq_ix2 y⟩
  have e : (⟨a.val / 128, by omega⟩ : Fin 16)
      = ⟨2 * (⟨a.val / 256, by omega⟩ : Fin 8).val + (⟨a.val / 128 % 2, by omega⟩ : Fin 2).val, by dsimp only; omega⟩ :=
    Fin.ext (by dsimp only; omega)
  show _ = rowScore x0 x1 x2 x3 x4 x5 x6 x7 x8 x9 (⟨a.val / 128, by omega⟩ : Fin 16) (⟨a.val % 128, by omega⟩ : Fin 128)
    (⟨i.val / 4096, by omega⟩ : Fin 4) (⟨i.val % 4096, by omega⟩ : Fin 4096)
  rw [e, ← ref_score]
  pointwise [val_main_v51, val_main_v50, val_main_v47]

end

end Cert.Merge

end
-- ==== Proof.MergeClaim.lean ====
/-
  The claim about the merge call: from equal arguments the call and its reference end with equal results, all three.
-/
module

public import proofs.«01_k».proof.Defs
public import proofs.«01_k».proof.Proof.MergeReference
public import proofs.«01_k».proof.Proof.Gen.Kernel3Ideal.Frame
public import proofs.«01_k».proof.Proof.Gen.Reference3Ideal.Run

@[expose] public section

noncomputable section

namespace Cert.Merge

open Idealize.ShloMosaic Idealize.ShloMosaic.TcCoe Idealize.SL.Sem

set_option maxRecDepth 16384

theorem algebraic : Cert.algebraic_Kernel3Ideal_Reference3Ideal := by
  intro m ρ m' ρ' _ hagree
  refine ⟨fun c => sums m c, fun c => norms m c, fun c => scores m c, (θ_run Cert.Kernel3Ideal.defs _ _).mono
    (fun _ h c => ⟨(h c).1.trans (sums_eq m c), (h c).2.1.trans (norms_eq m c), (h c).2.2.1.trans (scores_eq m c), (h c).2.2.2⟩)
    (Cert.Kernel3Ideal.Value.run_blocks (F := Ideal) m ρ), ?_⟩
  refine (θ_run Cert.Reference3Ideal.defs _ _).mono
    (fun _ h c => ⟨(h c).1.trans ?_, (h c).2.1.trans ?_, (h c).2.2.1.trans ?_, (h c).2.2.2⟩)
    (Cert.Reference3Ideal.Value.run (F := Ideal) m' ρ')
  all_goals obtain ⟨h0, h1, h2, h3, h4, h5, h6, h7, h8, h9⟩ := hagree c
  · rw [h0, h1, h2, h3, h4, h5, h6]
    exact (Cert.Reference3Ideal.Read.val_main_v48_eq (F := Ideal) _ _ _ _ _ _ _).trans
      (ref_sums (argRet m c) (argAtt m c) (argProj m c) (argX m c) (argWret m c) (argWatt m c) (argWout m c))
  · refine (Cert.Reference3Ideal.Read.val_main_v49_eq m' c).trans ?_
    rw [h0, h1, h2, h3, h4, h5, h6, h7]
    exact ref_norms (argRet m c) (argAtt m c) (argProj m c) (argX m c) (argWret m c) (argWatt m c) (argWout m c) (argGain m c)
  · refine (Cert.Reference3Ideal.Read.val_main_v51_eq m' c).trans ?_
    rw [h0, h1, h2, h3, h4, h5, h6, h7, h8, h9]
    exact ref_scores (argRet m c) (argAtt m c) (argProj m c) (argX m c) (argWret m c) (argWatt m c) (argWout m c) (argGain m c)
      (argWq m c) (argKeys m c)

end Cert.Merge

end
-- ==== Proof.RetentionBlock.lean ====
/-
  What one grid point of the retention leaves behind. A point holds 512 rows of one pair of heads and walks them in four
  chunks of 128. For each chunk and each of the two heads it stores 128 rows of the output, computed from the state the
  head has reached, and then stores the head's next state.
-/
module

public import proofs.«01_k».proof.Proof.MergeClaim
public import proofs.«01_k».proof.Proof.Gen.KernelIdeal.Value
public import Idealize.ShloMosaic.Lib.Pipeline.ValueKit.Tiles
public import Idealize.ShloMosaic.Lib.Pipeline.ReadBack

@[expose] public section

set_option maxRecDepth 16384

noncomputable section

namespace Cert.Retention

open Cert.KernelIdeal Cert.KernelIdeal.Gen Cert.KernelIdeal.Value Idealize.ShloMosaic Idealize.ShloMosaic.TcCoe Idealize.SL.Sem

variable {F : FTy → Type} [FloatOps F]

/-- The lane number at every place of a 128 by 128 array. -/
def lanes : IVec S128x128 32 := iota .tc S128x128 32 [1] iota_S128x128_d1_w32

/-- The offset of a chunk's first row. -/
theorem chunk_le (j : ℕ) : 128 * (j % 4) + 128 ≤ 512 := by omega

/-- The offset of a head's first column. -/
theorem half_le (h : ℕ) : 128 * (h % 2) + 128 ≤ 256 := by omega

/-- The 128 rows of chunk `j` of a block of queries or keys. -/
def qkRows (x : Vec F S1x512x128 .f32) (j : ℕ) : Vec F S1x128x128 .f32 :=
  View.ld x (Rect.unit ![0, 128 * (j % 4), 0] ![1, 128, 128] (by
    intro a; have := chunk_le j; fin_cases a <;> first | exact this | exact Nat.le_refl _))

/-- The 128 rows of chunk `j` of a head's half of a block of values or gates. -/
def vgRows (x : Vec F S1x512x256 .f32) (j h : ℕ) : Vec F S1x128x128 .f32 :=
  View.ld x (Rect.unit ![0, 128 * (j % 4), 128 * (h % 2)] ![1, 128, 128] (by
    intro a; have := chunk_le j; fin_cases a <;> first | exact this | exact Nat.le_refl _ | exact half_le h))

/-- The 128 rows of chunk `j` of a table of rotation angles. -/
def csRows (x : Vec F S512x128 .f32) (j : ℕ) : Vec F S128x128 .f32 :=
  View.ld x (Rect.unit ![128 * (j % 4), 0] ![128, 128] (by
    intro a; have := chunk_le j; fin_cases a <;> first | exact this | exact Nat.le_refl _))

/-- Decay table `i` of head `h`. -/
def tabAt (x : Vec F S2x4x128x128 .f32) (h i : ℕ) : Vec F S1x1x128x128 .f32 :=
  View.ld x (Rect.unit ![h % 2, i % 4, 0, 0] ![1, 1, 128, 128] (by
    intro a; fin_cases a <;> first | exact Nat.le_refl _ | exact Nat.mod_lt h (by decide) | exact Nat.mod_lt i (by decide)))

/-- The rotated queries of a chunk. -/
def rotQ (cs sn : Vec F S512x128 .f32) (q : Vec F S1x512x128 .f32) (j : ℕ) : FVec F S128x128 .f32 :=
  k0_pay52 k0_pay3 (csRows cs j) (csRows sn j) (qkRows q j)

/-- The rotated and scaled keys of a chunk. -/
def rotK (cs sn : Vec F S512x128 .f32) (k : Vec F S1x512x128 .f32) (j : ℕ) : FVec F S128x128 .f32 :=
  k0_pay53 k0_pay3 (csRows cs j) (csRows sn j) (qkRows k j)

/-- The queries of one head of the pair: the other head's lanes are zero. -/
def headQ (h : ℕ) (q : FVec F S128x128 .f32) : FVec F S128x128 .bf16 :=
  if h % 2 = 0 then k0_pay82 lanes q else k0_pay68 lanes q

/-- The products of queries and keys. -/
def scores (q : FVec F S128x128 .bf16) (k : FVec F S128x128 .f32) : FVec F S128x128 .f32 :=
  matmul dot_S128x128_S128x128_S128x128_1_1_0_0_n_n none q (truncf .bf16 k bitsLt_bf16_f32) (constant S128x128 .f32 0x00000000#32)

/-- The state after a chunk, from the state before it. -/
def nextState (cs sn : Vec F S512x128 .f32) (k : Vec F S1x512x128 .f32) (v : Vec F S1x512x256 .f32) (tb : Vec F S2x4x128x128 .f32)
    (h j : ℕ) (st : Vec F S1x128x128 .f32) : Vec F S1x128x128 .f32 :=
  k0_pay72 (rotK cs sn k j) (k0_pay69 (vgRows v j h)) st (tabAt tb h 1) (tabAt tb h 3)

/-- The state that `j` chunks leave. -/
def stateAt (cs sn : Vec F S512x128 .f32) (k : Vec F S1x512x128 .f32) (v : Vec F S1x512x256 .f32) (tb : Vec F S2x4x128x128 .f32)
    (h : ℕ) (st : Vec F S1x128x128 .f32) : ℕ → Vec F S1x128x128 .f32
  | 0 => st
  | j + 1 => nextState cs sn k v tb h j (stateAt cs sn k v tb h st j)

/-- The rows a chunk stores for one head, from the state before the chunk. -/
def chunkOut (cs sn : Vec F S512x128 .f32) (q k : Vec F S1x512x128 .f32) (v g : Vec F S1x512x256 .f32) (tb : Vec F S2x4x128x128 .f32)
    (h j : ℕ) (st : Vec F S1x128x128 .f32) : FVec F S1x128x128 .bf16 :=
  k0_pay75
    (k0_pay73 (headQ h (rotQ cs sn q j)) (k0_pay69 (vgRows v j h)) (scores (headQ h (rotQ cs sn q j)) (rotK cs sn k j))
      (tabAt tb h 0) st (tabAt tb h 2))
    (k0_pay74 (headQ h (rotQ cs sn q j)) (k0_pay69 (vgRows v j h)) (scores (headQ h (rotQ cs sn q j)) (rotK cs sn k j))
      (tabAt tb h 0) st (tabAt tb h 2))
    (vgRows g j h)

/-- One head's part of the state. -/
def headState (x : Vec F S2x128x128 .f32) (h : ℕ) : Vec F S1x128x128 .f32 :=
  View.ld x (Rect.unit ![h % 2, 0, 0] ![1, 128, 128] (by
    intro a; fin_cases a <;> first | exact Nat.le_refl _ | exact Nat.mod_lt h (by decide)))

variable (m : (ℓ : Loc nD τ sig) → Buf (Elt F) ℓ) (c : Dev nD)

/-- The 128 rows that chunk `j` stores of a head's half of the output block. -/
def outRows (x : Vec F S1x512x256 .bf16) (j h : ℕ) : Vec F S1x128x128 .bf16 :=
  View.ld x (Rect.unit ![0, 128 * (j % 4), 128 * (h % 2)] ![1, 128, 128] (by
    intro a; have := chunk_le j; fin_cases a <;> first | exact this | exact Nat.le_refl _ | exact half_le h))

/-- A load of a rectangle of a written array is the load of what was written. -/
theorem ld_canon {κ : Kind} {sp : Space} {s : Shape} {e : EltTy} (v : View sig κ sp s e) (L : List (View.Piece (Elt F) s e)) (r : Rect s) :
    View.ld (View.canon L) r = v.readCov L r.toLoadRect :=
  (View.readCov_eq_canon' v L r.toLoadRect).symm

/-- The first point of a pair of heads: the state starts from zero. -/
theorem state_first (t : Fin cfg0.N) (h : t.val % 8 = 0) (hh : ℕ) (hlt : hh < 2) :
    headState (outsAt0 m c t.val t.isLt).2 hh
      = stateAt (iblk m c 4 t) (iblk m c 5 t) (iblk m c 1 t) (iblk m c 2 t) (iblk m c 6 t) hh (headState (k0_pay2 (F := F)) hh) 4 := by
  rw [outsAt0_A m c t h]
  dsimp only
  frame_open
  simp (disch := decide) only [↓ View.readCov_skip, ↓ View.readCov_cons_toLoadRect, ↓ View.readCov_fill]
  frame_out
  unfold headState
  interval_cases hh
  · refine (ld_canon (View.whole cc0_scratch0) _ _).trans ?_
    refine (View.readCov_skip _ _ _ _ _ (by decide)).trans ?_
    refine (View.readCov_cons_toLoadRect _ _ _ _).trans ?_
    rfl
  · refine (ld_canon (View.whole cc0_scratch0) _ _).trans ?_
    refine (View.readCov_cons_toLoadRect _ _ _ _).trans ?_
    rfl

/-- A later point: the state goes on from what the point before left. -/
theorem state_next (t : Fin cfg0.N) (h : ¬ t.val % 8 = 0) (hh : ℕ) (hlt : hh < 2) :
    headState (outsAt0 m c t.val t.isLt).2 hh
      = stateAt (iblk m c 4 t) (iblk m c 5 t) (iblk m c 1 t) (iblk m c 2 t) (iblk m c 6 t) hh
          (headState (outsAt0 m c (t.val - 1) (Nat.lt_of_le_of_lt (Nat.sub_le _ _) t.isLt)).2 hh) 4 := by
  rw [outsAt0_B m c t h]
  dsimp only
  frame_open
  simp (disch := decide) only [↓ View.readCov_skip, ↓ View.readCov_cons_toLoadRect, ↓ View.readCov_fill]
  frame_out
  simp only [read_unread_whole]
  unfold headState
  interval_cases hh
  · refine (ld_canon (View.whole cc0_scratch0) _ _).trans ?_
    refine (View.readCov_skip _ _ _ _ _ (by decide)).trans ?_
    refine (View.readCov_cons_toLoadRect _ _ _ _).trans ?_
    rfl
  · refine (ld_canon (View.whole cc0_scratch0) _ _).trans ?_
    refine (View.readCov_cons_toLoadRect _ _ _ _).trans ?_
    rfl

/-- The rows that each chunk of the first point stores. -/
theorem out_first (t : Fin cfg0.N) (h : t.val % 8 = 0) (j hh : ℕ) (hj : j < 4) (hlt : hh < 2) :
    outRows (outsAt0 m c t.val t.isLt).1 j hh
      = chunkOut (iblk m c 4 t) (iblk m c 5 t) (iblk m c 0 t) (iblk m c 1 t) (iblk m c 2 t) (iblk m c 3 t) (iblk m c 6 t) hh j
          (stateAt (iblk m c 4 t) (iblk m c 5 t) (iblk m c 1 t) (iblk m c 2 t) (iblk m c 6 t) hh (headState (k0_pay2 (F := F)) hh) j) := by
  rw [outsAt0_A m c t h]
  dsimp only
  frame_open
  simp (disch := decide) only [↓ View.readCov_skip, ↓ View.readCov_cons_toLoadRect, ↓ View.readCov_fill]
  frame_out
  unfold outRows
  interval_cases j <;> interval_cases hh <;>
  · simp only [Nat.reduceMod, Nat.reduceMul, ld_canon (ms0_7 t).view]
    simp (disch := decide) only [↓ View.readCov_skip, ↓ View.readCov_cons_toLoadRect]
    rfl

/-- The rows that each chunk of a later point stores. -/
theorem out_next (t : Fin cfg0.N) (h : ¬ t.val % 8 = 0) (j hh : ℕ) (hj : j < 4) (hlt : hh < 2) :
    outRows (outsAt0 m c t.val t.isLt).1 j hh
      = chunkOut (iblk m c 4 t) (iblk m c 5 t) (iblk m c 0 t) (iblk m c 1 t) (iblk m c 2 t) (iblk m c 3 t) (iblk m c 6 t) hh j
          (stateAt (iblk m c 4 t) (iblk m c 5 t) (iblk m c 1 t) (iblk m c 2 t) (iblk m c 6 t) hh
            (headState (outsAt0 m c (t.val - 1) (Nat.lt_of_le_of_lt (Nat.sub_le _ _) t.isLt)).2 hh) j) := by
  rw [outsAt0_B m c t h]
  dsimp only
  frame_open
  simp (disch := decide) only [↓ View.readCov_skip, ↓ View.readCov_cons_toLoadRect, ↓ View.readCov_fill]
  frame_out
  simp only [read_unread_whole]
  unfold outRows
  interval_cases j <;> interval_cases hh <;>
  · simp only [Nat.reduceMod, Nat.reduceMul, ld_canon (ms0_7 t).view]
    simp (disch := decide) only [↓ View.readCov_skip, ↓ View.readCov_cons_toLoadRect]
    rfl

end Cert.Retention
end
-- ==== Proof.RetentionMath.lean ====
/-
  The retention of one head, row by row, on extended reals: the rotated queries and keys, the state that the chunks of 128
  rows carry, and the gated, normalised output.
-/
module

public import proofs.«01_k».proof.Proof.RetentionBlock
public import proofs.«01_k».proof.Proof.RetentionScan

@[expose] public section

noncomputable section

namespace Cert.Retention

open Cert.ReferenceIdeal Idealize.ShloMosaic Idealize.ShloMosaic.TcCoe
open Cert.ReferenceIdeal.Step

/-- The cosine of the angle by which pair `f` of a row at position `s` is rotated. -/
def cosT (s : Fin 4096) (f : Fin 32) : EReal := K_main_v52 (F := Ideal) (ix2 s f)

/-- The sine of that angle. -/
def sinT (s : Fin 4096) (f : Fin 32) : EReal := K_main_v53 (F := Ideal) (ix2 s f)

/-- The logarithm of a head's decay per row. -/
def logG (h : Fin 8) : EReal := K_main_v82 (F := Ideal) (ix1 h)

/-- The number of a row in its chunk, as a number. -/
def num (r : Fin 128) : EReal := (sitofp (F := Ideal) .f32 (iotaInDim S128 32 0)) (ix1 r)

/-- What row `j` of a chunk weighs in row `i`: nothing when it comes later. -/
def decIn (h : Fin 8) (i j : Fin 128) : EReal := if j.val ≤ i.val then Ideal.exp (max (num i - num j) 0 * logG h) else 0

/-- What a row weighs in the state after its chunk. -/
def decK (h : Fin 8) (r : Fin 128) : EReal := Ideal.exp ((Ideal.ofBits .f32 0x42FE0000#32 - num r) * logG h)

/-- What the state before a chunk weighs in a row. -/
def decQ (h : Fin 8) (r : Fin 128) : EReal := Ideal.exp ((num r + 1) * logG h)

/-- What the state before a chunk weighs in the state after it. -/
def decC (h : Fin 8) : EReal := Ideal.exp (Ideal.ofBits .f32 0x43000000#32 * logG h)

/-- A row of 64 numbers rotated: the first 32 and the last 32 are the two coordinates of 32 pairs. -/
def rot (x : Fin 64 → EReal) (s : Fin 4096) (d : Fin 64) : EReal :=
  if h : d.val < 32 then
    x ⟨d.val, by omega⟩ * cosT s ⟨d.val, h⟩ - x ⟨32 + d.val, by omega⟩ * sinT s ⟨d.val, h⟩
  else
    x ⟨d.val - 32, by omega⟩ * sinT s ⟨d.val - 32, by omega⟩ + x ⟨32 + (d.val - 32), by omega⟩ * cosT s ⟨d.val - 32, by omega⟩

variable (X : S16384x6656.Idx → EReal) (b : Fin 4) (h : Fin 8)

/-- The rotated query of the row at position `s`. -/
def qRow (s : Fin 4096) : Fin 64 → EReal :=
  rot (fun d => X (ix2 ⟨4096 * b.val + s.val, by omega⟩ ⟨64 * h.val + d.val, by omega⟩)) s

/-- The rotated and scaled key of the row at position `s`. -/
def kRow (s : Fin 4096) (d : Fin 64) : EReal :=
  rot (fun d => X (ix2 ⟨4096 * b.val + s.val, by omega⟩ ⟨512 + (64 * h.val + d.val), by omega⟩)) s d * Ideal.ofBits .f32 0x3E000000#32

/-- The value of the row at position `s`. -/
def vRow (s : Fin 4096) (e : Fin 128) : EReal :=
  X (ix2 ⟨4096 * b.val + s.val, by omega⟩ ⟨1024 + (128 * h.val + e.val), by omega⟩)

/-- The gate of the row at position `s`. -/
def gRow (s : Fin 4096) (e : Fin 128) : EReal :=
  X (ix2 ⟨4096 * b.val + s.val, by omega⟩ ⟨2048 + (128 * h.val + e.val), by omega⟩)

/-- The position of row `r` of chunk `n`. -/
def posn (n : ℕ) (r : Fin 128) : Fin 4096 := ⟨128 * (n % 32) + r.val, by omega⟩

/-- What chunk `n` adds to the state. -/
def added (n : ℕ) (d : Fin 64) (e : Fin 128) : EReal :=
  ∑ r : Fin 128, (kRow X b h (posn n r) d * decK h r) * vRow X b h (posn n r) e

/-- The state before chunk `n`. -/
def state : ℕ → Fin 64 → Fin 128 → EReal
  | 0, _, _ => 0
  | n + 1, d, e => state n d e * decC h + added X b h n d e

/-- What a row reads: its own chunk's earlier rows, and the state before the chunk. -/
def reads (n : ℕ) (r : Fin 128) (e : Fin 128) : EReal :=
  (∑ j : Fin 128, ((∑ d : Fin 64, qRow X b h (posn n r) d * kRow X b h (posn n j) d) * decIn h r j) * vRow X b h (posn n j) e)
    + (∑ d : Fin 64, qRow X b h (posn n r) d * state X b h n d e) * decQ h r

/-- The mean of 128 numbers. -/
def mean (x : Fin 128 → EReal) : EReal := Ideal.div (∑ e : Fin 128, x e) (Ideal.ofBits .f32 0x43000000#32)

/-- 128 numbers with mean zero and variance one. -/
def unit (x : Fin 128 → EReal) (e : Fin 128) : EReal :=
  (x e - mean x) * Ideal.rsqrt (mean (fun e => (x e - mean x) * (x e - mean x)) + Ideal.ofBits .f32 0x358637BD#32)

/-- The output of a row. -/
def outRow (n : ℕ) (r : Fin 128) (e : Fin 128) : EReal :=
  unit (reads X b h n r) e * (gRow X b h (posn n r) e * Ideal.div 1 (1 + Ideal.exp (-gRow X b h (posn n r) e)))

end Cert.Retention

end
-- ==== Proof.RetentionReference.lean ====
/-
  The retention's reference, read at an index: the states of its scan are the states of RetentionMath, and its result is
  that module's output row by row.
-/
module

public import proofs.«01_k».proof.Proof.RetentionMath
public import Idealize.ShloMosaic.Lib.Pointwise
public import Idealize.ShloMosaic.Lib.DynamicIndex
public import Idealize.ShloMosaic.Lib.Pipeline.Value

@[expose] public section

set_option maxRecDepth 16384

noncomputable section

namespace Cert.Retention

open Cert.ReferenceIdeal Cert.ReferenceIdeal.Gen Idealize.ShloMosaic Idealize.ShloMosaic.TcCoe
open Cert.ReferenceIdeal.Step

section
variable {F : FTy → Type} [FloatOps F] (x : (⟨S16384x6656, .f32⟩ : BufTy).Contents (Elt F))

/-- The queries of every head. -/
def qHeads : (⟨S4x8x4096x64, .f32⟩ : BufTy).Contents (Elt F) :=
  transpose S4x8x4096x64 [0, 2, 1, 3] (shapeCast S4x4096x8x64 (extractStridedSlice S4x4096x512 ![0, 0, 0] (A_main_v0 x)
    slices_S4x4096x6656_S4x4096x512_0_0_0) shapeCasts_S4x4096x512_S4x4096x8x64) transposes_S4x4096x8x64_S4x8x4096x64_0_2_1_3

/-- The rows of every head, rotated. -/
def rotHeads (t : (⟨S4x8x4096x64, .f32⟩ : BufTy).Contents (Elt F)) : (⟨S4x8x4096x64, .f32⟩ : BufTy).Contents (Elt F) :=
  concatenate S4x8x4096x64 3
    [⟨S4x8x4096x32, subf (mulf (extractStridedSlice S4x8x4096x32 ![0, 0, 0, 0] t slices_S4x8x4096x64_S4x8x4096x32_0_0_0_0) (K_main_v57 (F := F)))
        (mulf (extractStridedSlice S4x8x4096x32 ![0, 0, 0, 32] t slices_S4x8x4096x64_S4x8x4096x32_0_0_0_32) (K_main_v60 (F := F)))⟩,
      ⟨S4x8x4096x32, addf (mulf (extractStridedSlice S4x8x4096x32 ![0, 0, 0, 0] t slices_S4x8x4096x64_S4x8x4096x32_0_0_0_0) (K_main_v64 (F := F)))
        (mulf (extractStridedSlice S4x8x4096x32 ![0, 0, 0, 32] t slices_S4x8x4096x64_S4x8x4096x32_0_0_0_32) (K_main_v67 (F := F)))⟩]
    concatenates_S4x8x4096x32_S4x8x4096x32_S4x8x4096x64_d3

/-- The rotated queries, chunk by chunk. -/
def qChunks : (⟨S4x8x32x128x64, .f32⟩ : BufTy).Contents (Elt F) :=
  shapeCast S4x8x32x128x64 (rotHeads (qHeads x)) shapeCasts_S4x8x4096x64_S4x8x32x128x64

/-- What the rows of a chunk weigh in one another. -/
def decayIn : (⟨S8x128x128, .f32⟩ : BufTy).Contents (Elt F) :=
  select (broadcastInDim S8x128x128 ![0, 1, 2] bcast_S1x128x128_S8x128x128_0_1_2 (broadcastInDim S1x128x128 ![1, 2] bcast_S128x128_S1x128x128_1_2
      (cmpi .sge (broadcastInDim S128x128 ![0, 1] bcast_S128x1_S128x128_0_1 (broadcastInDim S128x1 ![0] bcast_S128_S128x1_0 (iotaInDim S128 32 0)))
        (broadcastInDim S128x128 ![0, 1] bcast_S1x128_S128x128_0_1 (broadcastInDim S1x128 ![1] bcast_S128_S1x128_1 (iotaInDim S128 32 0))))))
    (Host.exp (mulf (broadcastInDim S8x128x128 ![0, 1, 2] bcast_S1x128x128_S8x128x128_0_1_2 (broadcastInDim S1x128x128 ![1, 2] bcast_S128x128_S1x128x128_1_2
        (maximumf (subf (broadcastInDim S128x128 ![0, 1] bcast_S128x1_S128x128_0_1 (broadcastInDim S128x1 ![0] bcast_S128_S128x1_0 (K_main_v83 (F := F))))
          (broadcastInDim S128x128 ![0, 1] bcast_S1x128_S128x128_0_1 (broadcastInDim S1x128 ![1] bcast_S128_S1x128_1 (K_main_v83 (F := F)))))
          (broadcastInDim S128x128 ![] bcast_S_S128x128 (constant S_ .f32 0x00000000#32)))))
      (broadcastInDim S8x128x128 ![0, 1, 2] bcast_S8x1x1_S8x128x128_0_1_2 (broadcastInDim S8x1x1 ![0] bcast_S8_S8x1x1_0 (K_main_v82 (F := F))))))
    (broadcastInDim S8x128x128 ![] bcast_S_S8x128x128 (id (constant S_ .f32 0x00000000#32)))

/-- What the state before a chunk weighs in its rows. -/
def decayQ : (⟨S8x128, .f32⟩ : BufTy).Contents (Elt F) :=
  Host.exp (mulf (broadcastInDim S8x128 ![0, 1] bcast_S1x128_S8x128_0_1 (broadcastInDim S1x128 ![1] bcast_S128_S1x128_1
      (addf (K_main_v83 (F := F)) (broadcastInDim S128 ![] bcast_S_S128 (constant S_ .f32 0x3F800000#32)))))
    (broadcastInDim S8x128 ![0, 1] bcast_S8x1_S8x128_0_1 (broadcastInDim S8x1 ![0] bcast_S8_S8x1_0 (K_main_v82 (F := F)))))

/-- The weighted products of queries and keys of a chunk. -/
def weights : (⟨S4x8x32x128x128, .f32⟩ : BufTy).Contents (Elt F) :=
  mulf (Host.dotGeneral dot_S4x8x32x128x64_S4x8x32x128x64_S4x8x32x128x128_4_4_3_3_012_012 none (qChunks x) (A_main_v84 x))
    (broadcastInDim S4x8x32x128x128 ![0, 1, 2, 3, 4] bcast_S1x8x1x128x128_S4x8x32x128x128_0_1_2_3_4
      (broadcastInDim S1x8x1x128x128 ![1, 3, 4] bcast_S8x128x128_S1x8x1x128x128_1_3_4 (decayIn (F := F))))

/-- What the states add to the rows. -/
def crossed (p : (⟨S32x4x8x64x128, .f32⟩ : BufTy).Contents (Elt F)) : (⟨S4x8x32x128x128, .f32⟩ : BufTy).Contents (Elt F) :=
  mulf (Host.dotGeneral dot_S4x8x32x128x64_S4x8x32x64x128_S4x8x32x128x128_4_3_3_4_012_012 none (qChunks x)
      (transpose S4x8x32x64x128 [1, 2, 0, 3, 4] p transposes_S32x4x8x64x128_S4x8x32x64x128_1_2_0_3_4))
    (broadcastInDim S4x8x32x128x128 ![0, 1, 2, 3, 4] bcast_S1x8x1x128x1_S4x8x32x128x128_0_1_2_3_4
      (broadcastInDim S1x8x1x128x1 ![1, 3] bcast_S8x128_S1x8x1x128x1_1_3 (decayQ (F := F))))

/-- What every row reads. -/
def rowReads (p : (⟨S32x4x8x64x128, .f32⟩ : BufTy).Contents (Elt F)) : (⟨S4x8x4096x128, .f32⟩ : BufTy).Contents (Elt F) :=
  shapeCast S4x8x4096x128 (addf (Host.dotGeneral dot_S4x8x32x128x128_S4x8x32x128x128_S4x8x32x128x128_4_3_3_4_012_012 none (weights x) (A_main_v96 x))
    (crossed x p)) shapeCasts_S4x8x32x128x128_S4x8x4096x128

/-- The mean of each row. -/
def rowMean (o : (⟨S4x8x4096x128, .f32⟩ : BufTy).Contents (Elt F)) : (⟨S4x8x4096x1, .f32⟩ : BufTy).Contents (Elt F) :=
  Host.divf (broadcastInDim S4x8x4096x1 ![0, 1, 2] bcast_S4x8x4096_S4x8x4096x1_0_1_2
      (Host.reduceAdd o (constant S_ .f32 0x00000000#32) reducesTo_S4x8x4096x128_S4x8x4096_d3 h_S_))
    (broadcastInDim S4x8x4096x1 ![] bcast_S_S4x8x4096x1 (constant S_ .f32 0x43000000#32))

/-- Each row less its mean. -/
def rowCentred (o : (⟨S4x8x4096x128, .f32⟩ : BufTy).Contents (Elt F)) : (⟨S4x8x4096x128, .f32⟩ : BufTy).Contents (Elt F) :=
  subf o (broadcastInDim S4x8x4096x128 ![0, 1, 2, 3] bcast_S4x8x4096x1_S4x8x4096x128_0_1_2_3 (rowMean o))

/-- Each row with mean zero and variance one. -/
def rowUnit (o : (⟨S4x8x4096x128, .f32⟩ : BufTy).Contents (Elt F)) : (⟨S4x8x4096x128, .f32⟩ : BufTy).Contents (Elt F) :=
  mulf (rowCentred o) (broadcastInDim S4x8x4096x128 ![0, 1, 2, 3] bcast_S4x8x4096x1_S4x8x4096x128_0_1_2_3
    (Host.rsqrt (addf (rowMean (mulf (rowCentred o) (rowCentred o)))
      (broadcastInDim S4x8x4096x1 ![] bcast_S_S4x8x4096x1 (constant S_ .f32 0x358637BD#32)))))

/-- The gates. -/
def gates : (⟨S4x4096x1024, .f32⟩ : BufTy).Contents (Elt F) :=
  extractStridedSlice S4x4096x1024 ![0, 0, 2048] (A_main_v0 x) slices_S4x4096x6656_S4x4096x1024_0_0_2048

/-- The result, from the states before the chunks. -/
def refOut (p : (⟨S32x4x8x64x128, .f32⟩ : BufTy).Contents (Elt F)) : (⟨S4x4096x1024, .bf16⟩ : BufTy).Contents (Elt F) :=
  truncf .bf16 (mulf
    (shapeCast S4x4096x1024 (transpose S4x4096x8x128 [0, 2, 1, 3] (rowUnit (rowReads x p)) transposes_S4x8x4096x128_S4x4096x8x128_0_2_1_3)
      shapeCasts_S4x4096x8x128_S4x4096x1024)
    (mulf (gates x) (Host.divf (broadcastInDim S4x4096x1024 ![] bcast_S_S4x4096x1024 (constant S_ .f32 0x3F800000#32))
      (addf (broadcastInDim S4x4096x1024 ![] bcast_S_S4x4096x1024 (constant S_ .f32 0x3F800000#32)) (Host.exp (Host.negf (gates x)))))))
    bitsLt_bf16_f32

theorem result_stages (s : State F) : R_main_v257 s x = refOut x s.main_v105_4 := rfl
end

variable (x : S16384x6656.Idx → EReal) (b : Fin 4) (h : Fin 8)

theorem qHeads_read (s : Fin 4096) (d : Fin 64) :
    qHeads (F := Ideal) x (ix4 b h s d) = x (ix2 ⟨4096 * b.val + s.val, by omega⟩ ⟨64 * h.val + d.val, by omega⟩) := by
  pointwise [qHeads, A_main_v0]
  simp only [Nat.mul_comm b.val 4096, Nat.mul_comm h.val 64]

theorem kHeads_read (s : Fin 4096) (d : Fin 64) :
    A_main_v39 (F := Ideal) x (ix4 b h s d) = x (ix2 ⟨4096 * b.val + s.val, by omega⟩ ⟨512 + (64 * h.val + d.val), by omega⟩) := by
  pointwise [A_main_v39, A_main_v38, A_main_v3, A_main_v0]
  simp only [Nat.mul_comm b.val 4096, Nat.mul_comm h.val 64]

theorem posn_eq (n : Fin 32) (r : Fin 128) (hlt : n.val * 128 + r.val < 4096) : (⟨n.val * 128 + r.val, hlt⟩ : Fin 4096) = posn n r :=
  Fin.ext (by show n.val * 128 + r.val = 128 * (n.val % 32) + r.val; omega)

theorem vHeads_read (n : Fin 32) (r e : Fin 128) :
    A_main_v96 (F := Ideal) x (ix5 b h n r e) = vRow x b h (posn n r) e := by
  unfold vRow
  simp only [← posn_eq n r (by omega)]
  pointwise [A_main_v96, A_main_v74, A_main_v73, A_main_v4, A_main_v0]
  simp only [Nat.mul_comm b.val 4096, Nat.mul_comm h.val 128]

theorem rotHeads_read (t : S4x8x4096x64.Idx → EReal) (s : Fin 4096) (d : Fin 64) :
    rotHeads (F := Ideal) t (ix4 b h s d) = rot (fun d => t (ix4 b h s d)) s d := by
  unfold rot cosT sinT
  pointwise [rotHeads, K_main_v57, K_main_v60, K_main_v64, K_main_v67, K_main_v56, K_main_v59, K_main_v63, K_main_v66]

theorem chunks_pt (t : S4x8x4096x64.Idx → EReal) (n : Fin 32) (r : Fin 128) (d : Fin 64) :
    shapeCast S4x8x32x128x64 t shapeCasts_S4x8x4096x64_S4x8x32x128x64 (ix5 b h n r d) = t (ix4 b h (posn n r) d) := by
  rw [← posn_eq n r (by omega)]
  pointwise

theorem qChunks_read (n : Fin 32) (r : Fin 128) (d : Fin 64) :
    qChunks (F := Ideal) x (ix5 b h n r d) = qRow x b h (posn n r) d := by
  refine (chunks_pt b h _ n r d).trans ((rotHeads_read b h _ (posn n r) d).trans ?_)
  unfold qRow
  exact congrArg (fun f => rot f (posn n r) d) (funext fun d => qHeads_read x b h (posn n r) d)

theorem kScaled (t : S4x8x4096x64.Idx → EReal) (s : Fin 4096) (d : Fin 64) :
    mulf (F := Ideal) (φ := .f32) t (K_main_v71 (F := Ideal)) (ix4 b h s d) = t (ix4 b h s d) * Ideal.ofBits .f32 0x3E000000#32 := by
  pointwise [K_main_v71, K_main_cst_3]

theorem kChunks_read (n : Fin 32) (r : Fin 128) (d : Fin 64) :
    A_main_v84 (F := Ideal) x (ix5 b h n r d) = kRow x b h (posn n r) d := by
  refine (chunks_pt b h _ n r d).trans ((kScaled b h (rotHeads (F := Ideal) (A_main_v39 x)) (posn n r) d).trans ?_)
  rw [rotHeads_read]
  unfold kRow
  exact congrArg (fun f => rot f (posn n r) d * Ideal.ofBits .f32 0x3E000000#32) (funext fun d => kHeads_read x b h (posn n r) d)

/-- The comparison of two row numbers below 128. -/
theorem row_le : ∀ i j : Fin 128, IntOp.cmpi .sge (BitVec.ofNat 32 i.val) (BitVec.ofNat 32 j.val) = if j.val ≤ i.val then 1#1 else 0#1 := by
  decide +kernel

theorem decayIn_read (i j : Fin 128) : decayIn (F := Ideal) (ix3 h i j) = decIn h i j := by
  unfold decIn logG num
  have e0 : (id (constant (F := Ideal) S_ .f32 0x00000000#32)) ix0 = (0 : EReal) := by
    show (constant (F := Ideal) S_ .f32 0x00000000#32) ix0 = (0 : EReal)
    pointwise
  pointwise [decayIn, K_main_v83]
  rw [e0, row_le]
  by_cases hij : j.val ≤ i.val
  · rw [if_pos hij, if_pos hij]; rfl
  · rw [if_neg hij, if_neg hij]; rfl

theorem decayQ_read (r : Fin 128) : decayQ (F := Ideal) (ix2 h r) = decQ h r := by
  unfold decQ logG num
  pointwise [decayQ, K_main_v83]

theorem decayK_read (n : Fin 32) (r : Fin 128) (d : Fin 64) : K_main_v94 (F := Ideal) (ix5 b h n r d) = decK h r := by
  unfold decK logG num
  pointwise [K_main_v94, K_main_v93, K_main_v92, K_main_v91, K_main_v90, K_main_v89, K_main_v88, K_main_v87, K_main_v86,
    K_main_v85, K_main_cst_6, K_main_v83]

theorem decayC_read : K_main_v101 (F := Ideal) (ix4 0 h 0 0) = decC h := by
  unfold decC logG
  pointwise [K_main_v101, K_main_v100, K_main_v99, K_main_v98, K_main_cst_7]

end Cert.Retention

end
-- ==== Proof.RetentionReads.lean ====
/-
  The retention's reference after its scan: the carried states are the states of RetentionMath, and the result is that
  module's output row by row.
-/
module

public import proofs.«01_k».proof.Proof.RetentionReference

@[expose] public section

set_option maxRecDepth 16384

noncomputable section

namespace Cert.Retention

open Cert.ReferenceIdeal Cert.ReferenceIdeal.Gen Idealize.ShloMosaic Idealize.ShloMosaic.TcCoe
open Cert.ReferenceIdeal.Step

variable (x : S16384x6656.Idx → EReal) (b : Fin 4) (h : Fin 8)

theorem products_pt (k : S4x8x32x128x64.Idx → EReal) (v : S4x8x32x128x128.Idx → EReal) (n : Fin 32) (d : Fin 64) (e : Fin 128) :
    transpose S32x4x8x64x128 [2, 0, 1, 3, 4]
        (Host.dotGeneral (F := Ideal) (φ₁ := .f32) (φ₂ := .f32) dot_S4x8x32x128x64_S4x8x32x128x128_S4x8x32x64x128_3_3_4_4_012_012 none k v)
        transposes_S4x8x32x64x128_S32x4x8x64x128_2_0_1_3_4 (ix5 n b h d e)
      = ∑ r : Fin 128, k (ix5 b h n r d) * v (ix5 b h n r e) := by
  pointwise

theorem weighted_pt (k : S4x8x32x128x64.Idx → EReal) (n : Fin 32) (r : Fin 128) (d : Fin 64) :
    mulf (F := Ideal) (φ := .f32) k (K_main_v94 (F := Ideal)) (ix5 b h n r d) = k (ix5 b h n r d) * decK h r := by
  rw [← decayK_read b h n r d]
  rfl

theorem added_read (n : Fin 32) (d : Fin 64) (e : Fin 128) :
    A_main_v103 (F := Ideal) x (ix5 n b h d e) = added x b h n d e := by
  refine (products_pt b h (A_main_v95 (F := Ideal) x) (A_main_v96 (F := Ideal) x) n d e).trans ?_
  unfold added
  refine Finset.sum_congr (ι := Fin 128) (M := EReal) rfl fun r _ => ?_
  refine congrArg₂ (fun u v : EReal => u * v) ?_ (vHeads_read x b h n r e)
  refine (weighted_pt b h (A_main_v84 (F := Ideal) x) n r d).trans ?_
  rw [kChunks_read]

theorem scan_added : ∀ n : ℕ, (scanState (F := Ideal) x n).main_v105_0 = A_main_v103 x
  | 0 => rfl
  | n + 1 => scan_added n

theorem starts (n : ℕ) (hn : n < 32) (o1 o2 o3 o4 : S_.Idx → BitVec 32) (h1 : o1 = constantI S_ 32 0#32) (h2 : o2 = constantI S_ 32 0#32)
    (h3 : o3 = constantI S_ 32 0#32) (h4 : o4 = constantI S_ 32 0#32) (a : Fin 5) :
    ((![(constantI S_ 32 (BitVec.ofNat 32 n) : S_.Idx → BitVec 32), o1, o2, o3, o4] : Fin 5 → S_.Idx → BitVec 32) a (Shape.Idx.first h_S_)).toInt
      = ((![n, 0, 0, 0, 0] : Fin 5 → ℕ) a : ℤ) := by
  subst h1 h2 h3 h4
  fin_cases a
  · show (BitVec.ofNat 32 n).toInt = (n : ℤ)
    rw [BitVec.toInt_ofNat']
    simp only [Int.bmod]
    omega
  all_goals rfl

theorem slice_pt (n : Fin 32) (y : S32x4x8x64x128.Idx → EReal) (hs : S32x4x8x64x128.Slices ![n.val, 0, 0, 0, 0] S1x4x8x64x128) (d : Fin 64) (e : Fin 128) :
    shapeCast S4x8x64x128 (extractStridedSlice S1x4x8x64x128 ![n.val, 0, 0, 0, 0] y hs) shapeCasts_S1x4x8x64x128_S4x8x64x128 (ix4 b h d e) = y (ix5 n b h d e) := by
  pointwise

theorem inside (n : ℕ) (hn : n < 32) : S32x4x8x64x128.Slices ![n, 0, 0, 0, 0] S1x4x8x64x128 :=
  ⟨rfl, fun a => by
    fin_cases a
    · show n + 1 ≤ 32
      omega
    all_goals exact Nat.le_refl _⟩

theorem taken (n : Fin 32) (s : State Ideal) (d : Fin 64) (e : Fin 128) :
    b5 n.val s (ix4 b h d e) = s.main_v105_0 (ix5 n b h d e) := by
  unfold b5 b4
  rw [Host.dynamicSlice_eq_extractStridedSlice S1x4x8x64x128 s.main_v105_0 _ ![n.val, 0, 0, 0, 0] _ (inside n.val n.isLt)
    (starts n.val n.isLt (b0 n.val s) (b1 n.val s) (b2 n.val s) (b3 n.val s) rfl rfl rfl rfl)]
  exact slice_pt b h n _ _ d e

theorem next_pt (s : State Ideal) (n : Fin 32) (d : Fin 64) (e : Fin 128) :
    b8 n.val s (ix4 b h d e) = s.main_v105_3 (ix4 b h d e) * decC h + s.main_v105_0 (ix5 n b h d e) := by
  rw [← taken, ← decayC_read]
  generalize hb : b5 n.val s = u
  have e8 : b8 n.val s = addf (F := Ideal) (φ := .f32) (b7 n.val s) u := by rw [← hb]; rfl
  rw [e8]
  pointwise [b7, b6]

/-- The state that the scan carries before trip `n`. -/
theorem scan_now : ∀ n : ℕ, n ≤ 32 → ∀ (d : Fin 64) (e : Fin 128),
    (scanState (F := Ideal) x n).main_v105_3 (ix4 b h d e) = state x b h n d e
  | 0, _, d, e => by
    show (K_main_v102 (F := Ideal)) (ix4 b h d e) = 0
    pointwise [K_main_v102, K_main_cst_8]
  | n + 1, hn, d, e => by
    refine (next_pt b h (scanState (F := Ideal) x n) ⟨n, hn⟩ d e).trans ?_
    rw [scan_now n (by omega) d e, scan_added, added_read]
    rfl

theorem put_pt (n m : Fin 32) (y : S32x4x8x64x128.Idx → EReal) (u : S4x8x64x128.Idx → EReal)
    (hs : S32x4x8x64x128.Slices ![n.val, 0, 0, 0, 0] S1x4x8x64x128) (d : Fin 64) (e : Fin 128) :
    updateSlice y (broadcastInDim S1x4x8x64x128 ![1, 2, 3, 4] bcast_S4x8x64x128_S1x4x8x64x128_1_2_3_4 u) ![n.val, 0, 0, 0, 0] hs (ix5 m b h d e)
      = if m = n then u (ix4 b h d e) else y (ix5 m b h d e) := by
  pointwise
  by_cases hmn : m = n
  · subst hmn
    rw [if_pos rfl, dif_pos ⟨Nat.le_refl _, Nat.lt_succ_self _⟩]
  · rw [if_neg hmn, dif_neg fun hc => hmn (Fin.ext (by omega))]

theorem putAt (n m : Fin 32) (s : State Ideal) (d : Fin 64) (e : Fin 128) :
    b14 n.val s (ix5 m b h d e) = if m = n then s.main_v105_3 (ix4 b h d e) else s.main_v105_4 (ix5 m b h d e) := by
  unfold b14
  rw [Host.dynamicUpdateSlice_eq_updateSlice _ _ _ _ ![n.val, 0, 0, 0, 0] ?_ (inside n.val n.isLt)]
  · exact put_pt b h n m _ _ _ d e
  · intro a
    rw [starts n.val n.isLt (b10 n.val s) (b11 n.val s) (b12 n.val s) (b13 n.val s) rfl rfl rfl rfl]
    fin_cases a
    · show (min (max (n.val : ℤ) 0) (31 : ℤ)).toNat = n.val
      omega
    all_goals rfl

/-- The states that the scan leaves behind. -/
theorem scan_past : ∀ n : ℕ, n ≤ 32 → ∀ (m : Fin 32), m.val < n → ∀ (d : Fin 64) (e : Fin 128),
    (scanState (F := Ideal) x n).main_v105_4 (ix5 m b h d e) = state x b h m d e
  | 0, _, m, hm, d, e => absurd hm (Nat.not_lt_zero _)
  | n + 1, hn, m, hm, d, e => by
    refine (putAt b h ⟨n, hn⟩ m (scanState (F := Ideal) x n) d e).trans ?_
    by_cases hmn : m = ⟨n, hn⟩
    · rw [if_pos hmn, scan_now x b h n (by omega), hmn]
    · rw [if_neg hmn]
      exact scan_past n (by omega) m (Nat.lt_of_le_of_ne (Nat.le_of_lt_succ hm) fun hc => hmn (Fin.ext hc)) d e

theorem weights_pt (q k : S4x8x32x128x64.Idx → EReal) (w : S8x128x128.Idx → EReal) (n : Fin 32) (i j : Fin 128) :
    mulf (F := Ideal) (φ := .f32) (Host.dotGeneral (F := Ideal) (φ₁ := .f32) (φ₂ := .f32) dot_S4x8x32x128x64_S4x8x32x128x64_S4x8x32x128x128_4_4_3_3_012_012 none q k)
      (broadcastInDim S4x8x32x128x128 ![0, 1, 2, 3, 4] bcast_S1x8x1x128x128_S4x8x32x128x128_0_1_2_3_4
        (broadcastInDim S1x8x1x128x128 ![1, 3, 4] bcast_S8x128x128_S1x8x1x128x128_1_3_4 w)) (ix5 b h n i j)
      = (∑ d : Fin 64, q (ix5 b h n i d) * k (ix5 b h n j d)) * w (ix3 h i j) := by
  pointwise

theorem weights_read (n : Fin 32) (i j : Fin 128) :
    weights (F := Ideal) x (ix5 b h n i j) = (∑ d : Fin 64, qRow x b h (posn n i) d * kRow x b h (posn n j) d) * decIn h i j := by
  refine (weights_pt b h (qChunks (F := Ideal) x) (A_main_v84 (F := Ideal) x) (decayIn (F := Ideal)) n i j).trans ?_
  rw [decayIn_read]
  refine congrArg (fun u : EReal => u * decIn h i j) (Finset.sum_congr (ι := Fin 64) (M := EReal) rfl fun d _ => ?_)
  rw [qChunks_read, kChunks_read]

theorem crossed_pt (q : S4x8x32x128x64.Idx → EReal) (p : S32x4x8x64x128.Idx → EReal) (w : S8x128.Idx → EReal) (n : Fin 32) (r e : Fin 128) :
    mulf (F := Ideal) (φ := .f32) (Host.dotGeneral (F := Ideal) (φ₁ := .f32) (φ₂ := .f32) dot_S4x8x32x128x64_S4x8x32x64x128_S4x8x32x128x128_4_3_3_4_012_012 none q
        (transpose S4x8x32x64x128 [1, 2, 0, 3, 4] p transposes_S32x4x8x64x128_S4x8x32x64x128_1_2_0_3_4))
      (broadcastInDim S4x8x32x128x128 ![0, 1, 2, 3, 4] bcast_S1x8x1x128x1_S4x8x32x128x128_0_1_2_3_4
        (broadcastInDim S1x8x1x128x1 ![1, 3] bcast_S8x128_S1x8x1x128x1_1_3 w)) (ix5 b h n r e)
      = (∑ d : Fin 64, q (ix5 b h n r d) * p (ix5 n b h d e)) * w (ix2 h r) := by
  pointwise

theorem crossed_read (n : Fin 32) (r e : Fin 128) :
    crossed (F := Ideal) x (scanState (F := Ideal) x 32).main_v105_4 (ix5 b h n r e)
      = (∑ d : Fin 64, qRow x b h (posn n r) d * state x b h n d e) * decQ h r := by
  refine (crossed_pt b h (qChunks (F := Ideal) x) (scanState (F := Ideal) x 32).main_v105_4 (decayQ (F := Ideal)) n r e).trans ?_
  rw [decayQ_read]
  refine congrArg (fun u : EReal => u * decQ h r) (Finset.sum_congr (ι := Fin 64) (M := EReal) rfl fun d _ => ?_)
  rw [qChunks_read, scan_past x b h 32 (Nat.le_refl _) n n.isLt]

theorem rows_pt (a v c : S4x8x32x128x128.Idx → EReal) (n : Fin 32) (r e : Fin 128) :
    shapeCast S4x8x4096x128 (addf (F := Ideal) (φ := .f32) (Host.dotGeneral (F := Ideal) (φ₁ := .f32) (φ₂ := .f32)
        dot_S4x8x32x128x128_S4x8x32x128x128_S4x8x32x128x128_4_3_3_4_012_012 none a v) c) shapeCasts_S4x8x32x128x128_S4x8x4096x128
        (ix4 b h ⟨128 * n.val + r.val, by omega⟩ e)
      = (∑ j : Fin 128, a (ix5 b h n r j) * v (ix5 b h n j e)) + c (ix5 b h n r e) := by
  have h1 : (⟨(128 * n.val + r.val) / 128, by omega⟩ : Fin 32) = n := Fin.ext (by show (128 * n.val + r.val) / 128 = n.val; omega)
  have h2 : (⟨(128 * n.val + r.val) % 128, by omega⟩ : Fin 128) = r := Fin.ext (by show (128 * n.val + r.val) % 128 = r.val; omega)
  pointwise

theorem rows_read (n : Fin 32) (r e : Fin 128) :
    rowReads (F := Ideal) x (scanState (F := Ideal) x 32).main_v105_4 (ix4 b h ⟨128 * n.val + r.val, by omega⟩ e) = reads x b h n r e := by
  refine (rows_pt b h (weights (F := Ideal) x) (A_main_v96 (F := Ideal) x) (crossed (F := Ideal) x (scanState (F := Ideal) x 32).main_v105_4) n r e).trans ?_
  rw [crossed_read]
  unfold reads
  refine congrArg (fun u : EReal => u + (∑ d : Fin 64, qRow x b h (posn n r) d * state x b h n d e) * decQ h r) (Finset.sum_congr (ι := Fin 128) (M := EReal) rfl fun j _ => ?_)
  rw [weights_read, vHeads_read]

theorem mean_read (o : S4x8x4096x128.Idx → EReal) (s : Fin 4096) :
    rowMean (F := Ideal) o (ix4 b h s 0) = mean fun e => o (ix4 b h s e) := by
  unfold mean
  pointwise [rowMean]

theorem centred_read (o : S4x8x4096x128.Idx → EReal) (s : Fin 4096) (e : Fin 128) :
    rowCentred (F := Ideal) o (ix4 b h s e) = o (ix4 b h s e) - mean fun e => o (ix4 b h s e) := by
  rw [← mean_read]
  pointwise [rowCentred]

theorem unit_pt (c : S4x8x4096x128.Idx → EReal) (m : S4x8x4096x1.Idx → EReal) (s : Fin 4096) (e : Fin 128) :
    mulf (F := Ideal) (φ := .f32) c (broadcastInDim S4x8x4096x128 ![0, 1, 2, 3] bcast_S4x8x4096x1_S4x8x4096x128_0_1_2_3
      (Host.rsqrt (F := Ideal) (φ := .f32) (addf m (broadcastInDim S4x8x4096x1 ![] bcast_S_S4x8x4096x1 (constant S_ .f32 0x358637BD#32))))) (ix4 b h s e)
      = c (ix4 b h s e) * Ideal.rsqrt (m (ix4 b h s 0) + Ideal.ofBits .f32 0x358637BD#32) := by
  pointwise

theorem unit_read (o : S4x8x4096x128.Idx → EReal) (s : Fin 4096) (e : Fin 128) :
    rowUnit (F := Ideal) o (ix4 b h s e) = unit (fun e => o (ix4 b h s e)) e := by
  refine (unit_pt b h (rowCentred (F := Ideal) o)
    (rowMean (F := Ideal) (mulf (F := Ideal) (φ := .f32) (rowCentred (F := Ideal) o) (rowCentred (F := Ideal) o))) s e).trans ?_
  rw [mean_read]
  unfold unit
  simp only [← centred_read]
  rfl

theorem gates_read (s : Fin 4096) (e : Fin 128) :
    gates (F := Ideal) x (ix3 b s ⟨128 * h.val + e.val, by omega⟩) = gRow x b h s e := by
  unfold gRow
  pointwise [gates, A_main_v0]
  simp only [Nat.mul_comm b.val 4096]

theorem out_pt (u : S4x8x4096x128.Idx → EReal) (g : S4x4096x1024.Idx → EReal) (s : Fin 4096) (e : Fin 128) :
    truncf (F := Ideal) (φ := .f32) .bf16 (mulf
    (shapeCast S4x4096x1024 (transpose S4x4096x8x128 [0, 2, 1, 3] u transposes_S4x8x4096x128_S4x4096x8x128_0_2_1_3)
      shapeCasts_S4x4096x8x128_S4x4096x1024)
    (mulf g (Host.divf (broadcastInDim S4x4096x1024 ![] bcast_S_S4x4096x1024 (constant S_ .f32 0x3F800000#32))
      (addf (broadcastInDim S4x4096x1024 ![] bcast_S_S4x4096x1024 (constant S_ .f32 0x3F800000#32)) (Host.exp (Host.negf g))))))
    bitsLt_bf16_f32 (ix3 b s ⟨128 * h.val + e.val, by omega⟩)
    = u (ix4 b h s e) * (g (ix3 b s ⟨128 * h.val + e.val, by omega⟩) * Ideal.div 1 (1 + Ideal.exp (-g (ix3 b s ⟨128 * h.val + e.val, by omega⟩)))) := by
  pointwise

theorem out_read (n : Fin 32) (r e : Fin 128) :
    refOut (F := Ideal) x (scanState (F := Ideal) x 32).main_v105_4 (ix3 b ⟨128 * n.val + r.val, by omega⟩ ⟨128 * h.val + e.val, by omega⟩)
      = outRow x b h n r e := by
  refine (out_pt b h (rowUnit (F := Ideal) (rowReads (F := Ideal) x (scanState (F := Ideal) x 32).main_v105_4)) (gates (F := Ideal) x) _ e).trans ?_
  rw [unit_read, gates_read]
  unfold outRow
  have ep : (⟨128 * n.val + r.val, by omega⟩ : Fin 4096) = posn n r := Fin.ext (by show 128 * n.val + r.val = 128 * (n.val % 32) + r.val; omega)
  rw [ep]
  refine congrArg (fun f => unit f e * _) (funext fun e => ?_)
  rw [← ep]
  exact rows_read x b h n r e

end Cert.Retention

end
-- ==== Proof.RetentionTables.lean ====
/-
  What the retention call reads: the blocks of its grid points, and the tables that its host code prepares, in the terms of
  RetentionMath.
-/
module

public import proofs.«01_k».proof.Proof.RetentionReads
public import proofs.«01_k».proof.Proof.Gen.KernelIdeal.Value
public import Idealize.ShloMosaic.Lib.Pipeline.ValueKit.Geometry
public import Idealize.ShloMosaic.Lib.StableHlo.ReadAt
public import Idealize.ShloMosaic.Lib.Pointwise

@[expose] public section

set_option maxRecDepth 16384

noncomputable section

namespace Cert.Retention

open Cert.KernelIdeal Cert.KernelIdeal.Gen Cert.KernelIdeal.Value Idealize.ShloMosaic Idealize.ShloMosaic.TcCoe
open Idealize.ShloMosaic.Pipeline

variable (m : (ℓ : Loc nD τ sig) → Buf (Elt Ideal) ℓ) (c : Dev nD)

/-- The argument of the call. -/
def arg : Vec Ideal S16384x6656 .f32 := m (c, Proc.tc.devRef main_arg0)

theorem proj_read (b : Fin 4) (s : Fin 4096) (k : Fin 6656) :
    (V m c main_v0 : Vec Ideal S4x4096x6656 .f32) (ix3 b s k) = arg m c (ix2 ⟨4096 * b.val + s.val, by omega⟩ k) := by
  unfold V
  after_reads_at
  simp only [Nat.mul_comm b.val 4096]
  rfl

theorem logG_read (h : Fin 8) : (V m c main_v34 : Vec Ideal S8 .f32) (ix1 h) = logG h := by
  unfold V logG
  after_reads_at
  rfl

/-- The column that lane `l` of the tables is gathered from. -/
theorem lit0_eq : ∀ l : Fin 128, (lit0 l).toInt = ((l.val % 32 : ℕ) : ℤ) := by decide +kernel

theorem lit1_eq : ∀ l : Fin 128, lit1 l = if l.val % 64 < 32 then 0xBF800000#32 else 0x3F800000#32 := by decide +kernel

theorem gather_at (idx : S128x1.Idx → BitVec 32) (x : S4096x32.Idx → EReal) (s : Fin 4096) (l : Fin 128) (k : Fin 32)
    (hk : (idx (ix2 l 0)).toInt = ((k.val : ℕ) : ℤ)) :
    Host.gather gather_S4096x32_S128x1_S4096x128_0_1_n_n_1_1_40961 x idx (ix2 s l) = x (ix2 s k) := by
  refine congrArg x (funext fun a => ?_)
  fin_cases a
  · refine Fin.ext ?_
    show 0 + 0 + s.val = s.val
    omega
  · refine Fin.ext ?_
    have e : gather_S4096x32_S128x1_S4096x128_0_1_n_n_1_1_40961.siIdx (ix2 s l) ⟨0, by decide⟩ = ix2 l 0 := by
      funext b
      fin_cases b <;> rfl
    show min (idx (gather_S4096x32_S128x1_S4096x128_0_1_n_n_1_1_40961.siIdx (ix2 s l) ⟨0, by decide⟩)).toInt.toNat 31 + 0 + 0 = k.val
    rw [e, hk]
    omega

theorem gather_pt (x : S4096x32.Idx → EReal) (u : S128.Idx → BitVec 32) (s : Fin 4096) (l : Fin 128) :
    Host.gather gather_S4096x32_S128x1_S4096x128_0_1_n_n_1_1_40961 x
      (broadcastInDim S128x1 ![0] bcast_S128_S128x1_0
        (select (constantI S128 1 0#1) u fun i => lit0 (S128.rowMajor i)))
      (ix2 s l) = x (ix2 s ⟨l.val % 32, by omega⟩) := by
  refine gather_at _ x s l _ ?_
  rw [← lit0_eq]
  refine congrArg (fun i : Fin 128 => (lit0 i).toInt) ?_
  have e : ∀ l : Fin 128, (S128.rowMajor (ix1 l)).val = l.val := by decide +kernel
  refine Fin.ext (Eq.trans (congrArg (fun i => (S128.rowMajor i).val) ?_) (e l))
  funext a
  fin_cases a
  rfl

theorem neg_one : Ideal.ofBits .f32 0xBF800000#32 = (-1 : EReal) := by
  have e : Ideal.ofBits .f32 0xBF800000#32 = ((-(1 : ℝ)) : EReal) := by
    simp [Ideal.ofBits, Ideal.ieee, -EReal.coe_mul, -EReal.coe_neg]; norm_num
  rw [e, EReal.coe_one]

theorem row_one (l : Fin 128) : S1x128.rowMajor (ix2 0 l) = l := by
  have e : ∀ l : Fin 128, (S1x128.rowMajor (ix2 0 l)).val = l.val := by decide +kernel
  exact Fin.ext (e l)

theorem cos_read (s : Fin 4096) (l : Fin 128) :
    (V m c main_v18 : Vec Ideal S4096x128 .f32) (ix2 s l) = cosT s ⟨l.val % 32, by omega⟩ := by
  unfold V cosT
  after_reads_at
  exact gather_pt _ _ s l

theorem sin_read (s : Fin 4096) (l : Fin 128) :
    (V m c main_v26 : Vec Ideal S4096x128 .f32) (ix2 s l) = sinT s ⟨l.val % 32, by omega⟩ * (if l.val % 64 < 32 then -1 else 1) := by
  unfold V sinT
  after_reads_at
  refine congrArg₂ (fun u v : EReal => u * v) (gather_pt _ _ s l) ?_
  rw [row_one l, lit1_eq]
  split
  · exact neg_one
  · exact Ideal.ofBits_one_f32

theorem num_eq (r : Fin 128) : num r = ((r.val : ℝ) : EReal) := by
  have e : ∀ r : Fin 128, (BitVec.ofNat 32 r.val).toInt = ((r.val : ℕ) : ℤ) := by decide +kernel
  show (((BitVec.ofNat 32 r.val).toInt : ℝ) : EReal) = ((r.val : ℝ) : EReal)
  rw [e r]
  rfl

theorem num_le (i j : Fin 128) : 0 ≤ num i - num j ↔ j.val ≤ i.val := by
  rw [num_eq, num_eq, ← EReal.coe_sub, ← EReal.coe_zero, EReal.coe_le_coe_iff, sub_nonneg, Nat.cast_le]

theorem tab0_read (h : Fin 8) (i j : Fin 128) :
    (V m c main_v82 : Vec Ideal S8x4x128x128 .f32) (ix4 h 0 i j) = decIn h i j := by
  have e0 : (id (constant (F := Ideal) S_ .f32 0x00000000#32)) ix0 = (0 : EReal) := by
    show (constant (F := Ideal) S_ .f32 0x00000000#32) ix0 = (0 : EReal)
    pointwise
  unfold V
  after_reads_at
  after_reads_at
  rw [e0]
  unfold decIn
  simp only [← num_le]
  rfl

theorem tab1_read (h : Fin 8) (i j : Fin 128) :
    (V m c main_v82 : Vec Ideal S8x4x128x128 .f32) (ix4 h 1 i j) = decK h i := by
  unfold V
  after_reads_at
  after_reads_at
  rfl

theorem tab2_read (h : Fin 8) (i j : Fin 128) :
    (V m c main_v82 : Vec Ideal S8x4x128x128 .f32) (ix4 h 2 i j) = decQ h i := by
  unfold V
  after_reads_at
  after_reads_at
  rfl

theorem tab3_read (h : Fin 8) (i j : Fin 128) :
    (V m c main_v82 : Vec Ideal S8x4x128x128 .f32) (ix4 h 3 i j) = decC h := by
  unfold V
  after_reads_at
  after_reads_at
  rfl

/-! ### The blocks of a grid point -/

theorem ridx0 : ∀ t : Fin cfg0.N, win0_0.index t = ![t.val / 32, t.val % 8, t.val / 8 % 4] := (by decide +kernel : ∀ t : Fin grid0.N, _)
theorem ridx1 : ∀ t : Fin cfg0.N, win0_1.index t = ![t.val / 32, t.val % 8, 4 + t.val / 8 % 4] := (by decide +kernel : ∀ t : Fin grid0.N, _)
theorem ridx2 : ∀ t : Fin cfg0.N, win0_2.index t = ![t.val / 32, t.val % 8, 4 + t.val / 8 % 4] := (by decide +kernel : ∀ t : Fin grid0.N, _)
theorem ridx3 : ∀ t : Fin cfg0.N, win0_3.index t = ![t.val / 32, t.val % 8, 8 + t.val / 8 % 4] := (by decide +kernel : ∀ t : Fin grid0.N, _)
theorem ridx4 : ∀ t : Fin cfg0.N, win0_4.index t = ![t.val % 8, 0] := (by decide +kernel : ∀ t : Fin grid0.N, _)
theorem ridx5 : ∀ t : Fin cfg0.N, win0_5.index t = ![t.val % 8, 0] := (by decide +kernel : ∀ t : Fin grid0.N, _)
theorem ridx6 : ∀ t : Fin cfg0.N, win0_6.index t = ![t.val / 8 % 4, 0, 0, 0] := (by decide +kernel : ∀ t : Fin grid0.N, _)
theorem ridx7 : ∀ t : Fin cfg0.N, win0_7.index t = ![t.val / 32, t.val % 8, t.val / 8 % 4] := (by decide +kernel : ∀ t : Fin grid0.N, _)

theorem ptOf (t : Fin cfg0.N) : t.val < 128 := t.isLt

/-- The sequence of a grid point. -/
def seq (t : Fin cfg0.N) : Fin 4 := ⟨t.val / 32, by have := ptOf t; omega⟩

/-- The head of a grid point's half `hh`. -/
def head (t : Fin cfg0.N) (hh : ℕ) : Fin 8 := ⟨2 * (t.val / 8 % 4) + hh % 2, by omega⟩

/-- The position of row `r` of a grid point's chunk `j`. -/
theorem qBlk (t : Fin cfg0.N) (r : Fin 512) (l : Fin 128) :
    (iblk m c 0 t : Vec Ideal S1x512x128 .f32) (ix3 0 r l)
      = (V m c main_v0 : Vec Ideal S4x4096x6656 .f32) (ix3 (seq t) ⟨512 * (t.val % 8) + r.val, by omega⟩ ⟨128 * (t.val / 8 % 4) + l.val, by omega⟩) := by
  blk_simp [iblk, ridx0]
  exact congrArg _ (by blk_ext [ridx0, seq])

theorem kBlk (t : Fin cfg0.N) (r : Fin 512) (l : Fin 128) :
    (iblk m c 1 t : Vec Ideal S1x512x128 .f32) (ix3 0 r l)
      = (V m c main_v0 : Vec Ideal S4x4096x6656 .f32) (ix3 (seq t) ⟨512 * (t.val % 8) + r.val, by omega⟩ ⟨512 + 128 * (t.val / 8 % 4) + l.val, by omega⟩) := by
  blk_simp [iblk, ridx1]
  exact congrArg _ (by blk_ext [ridx1, seq])

theorem vBlk (t : Fin cfg0.N) (r : Fin 512) (l : Fin 256) :
    (iblk m c 2 t : Vec Ideal S1x512x256 .f32) (ix3 0 r l)
      = (V m c main_v0 : Vec Ideal S4x4096x6656 .f32) (ix3 (seq t) ⟨512 * (t.val % 8) + r.val, by omega⟩ ⟨1024 + 256 * (t.val / 8 % 4) + l.val, by omega⟩) := by
  blk_simp [iblk, ridx2]
  exact congrArg _ (by blk_ext [ridx2, seq])

theorem gBlk (t : Fin cfg0.N) (r : Fin 512) (l : Fin 256) :
    (iblk m c 3 t : Vec Ideal S1x512x256 .f32) (ix3 0 r l)
      = (V m c main_v0 : Vec Ideal S4x4096x6656 .f32) (ix3 (seq t) ⟨512 * (t.val % 8) + r.val, by omega⟩ ⟨2048 + 256 * (t.val / 8 % 4) + l.val, by omega⟩) := by
  blk_simp [iblk, ridx3]
  exact congrArg _ (by blk_ext [ridx3, seq])

theorem cBlk (t : Fin cfg0.N) (r : Fin 512) (l : Fin 128) :
    (iblk m c 4 t : Vec Ideal S512x128 .f32) (ix2 r l)
      = (V m c main_v18 : Vec Ideal S4096x128 .f32) (ix2 ⟨512 * (t.val % 8) + r.val, by omega⟩ l) := by
  blk_simp [iblk, ridx4]
  exact congrArg _ (by blk_ext [ridx4])

theorem sBlk (t : Fin cfg0.N) (r : Fin 512) (l : Fin 128) :
    (iblk m c 5 t : Vec Ideal S512x128 .f32) (ix2 r l)
      = (V m c main_v26 : Vec Ideal S4096x128 .f32) (ix2 ⟨512 * (t.val % 8) + r.val, by omega⟩ l) := by
  blk_simp [iblk, ridx5]
  exact congrArg _ (by blk_ext [ridx5])

theorem tBlk (t : Fin cfg0.N) (h : Fin 2) (k : Fin 4) (i j : Fin 128) :
    (iblk m c 6 t : Vec Ideal S2x4x128x128 .f32) (ix4 h k i j)
      = (V m c main_v82 : Vec Ideal S8x4x128x128 .f32) (ix4 ⟨2 * (t.val / 8 % 4) + h.val, by omega⟩ k i j) := by
  blk_simp [iblk, ridx6]
  exact congrArg _ (by blk_ext [ridx6])

end Cert.Retention

end
-- ==== Proof.RetentionPoint.lean ====
/-
  One chunk of the retention call over the extended reals: the rotated rows, the state and the output of one head, read at
  an index.
-/
module

public import proofs.«01_k».proof.Proof.RetentionTables

@[expose] public section

set_option maxRecDepth 16384

noncomputable section

namespace Cert.Retention

open Cert.KernelIdeal Cert.KernelIdeal.Gen Cert.KernelIdeal.Value Idealize.ShloMosaic Idealize.ShloMosaic.TcCoe

theorem pay3_read (r l : Fin 128) : k0_pay3 (ix2 r l) = if l.val % 64 < 32 then 1#1 else 0#1 := by
  pointwise [k0_pay3]
  revert l
  decide +kernel

theorem pay52_read (C S : Vec Ideal S128x128 .f32) (Q : Vec Ideal S1x128x128 .f32) (r l : Fin 128) :
    k0_pay52 k0_pay3 C S Q (ix2 r l) = Q (ix3 0 r l) * C (ix2 r l)
      + (if l.val % 64 < 32 then Q (ix3 0 r ⟨(l.val + 32) % 128, by omega⟩) else Q (ix3 0 r ⟨(l.val + 96) % 128, by omega⟩)) * S (ix2 r l) := by
  generalize hp : k0_pay3 = p
  pointwise [k0_pay52, k0_pay50, k0_pay51]
  rw [← hp, pay3_read]
  have e1 : (l.val + 128 - 96) % 128 = (l.val + 32) % 128 := by omega
  have e2 : (l.val + 128 - 32) % 128 = (l.val + 96) % 128 := by omega
  simp only [e1, e2]
  by_cases hl : l.val % 64 < 32
  · simp only [if_pos hl]; rfl
  · simp only [if_neg hl]; rfl

theorem pay53_read (C S : Vec Ideal S128x128 .f32) (Q : Vec Ideal S1x128x128 .f32) (r l : Fin 128) :
    k0_pay53 k0_pay3 C S Q (ix2 r l) = (Q (ix3 0 r l) * C (ix2 r l)
      + (if l.val % 64 < 32 then Q (ix3 0 r ⟨(l.val + 32) % 128, by omega⟩) else Q (ix3 0 r ⟨(l.val + 96) % 128, by omega⟩)) * S (ix2 r l))
      * Ideal.ofBits .f32 0x3E000000#32 := by
  generalize hp : k0_pay3 = p
  pointwise [k0_pay53, k0_pay50, k0_pay51]
  rw [← hp, pay3_read]
  have e1 : (l.val + 128 - 96) % 128 = (l.val + 32) % 128 := by omega
  have e2 : (l.val + 128 - 32) % 128 = (l.val + 96) % 128 := by omega
  simp only [e1, e2]
  by_cases hl : l.val % 64 < 32
  · simp only [if_pos hl]; rfl
  · simp only [if_neg hl]; rfl

theorem pay82_read (q : FVec Ideal S128x128 .f32) (r l : Fin 128) :
    (k0_pay82 (F := Ideal) lanes q (ix2 r l) : EReal) = if l.val < 64 then q (ix2 r l) else 0 := by
  pointwise [k0_pay82, lanes]
  refine (congrArg (fun w : BitVec 1 => Scalar.select w (q (ix2 r l)) (0 : EReal)) (?_ : _ = if l.val < 64 then 1#1 else 0#1)).trans ?_
  · clear q
    revert l
    decide +kernel
  · split <;> rfl

theorem pay68_read (q : FVec Ideal S128x128 .f32) (r l : Fin 128) :
    (k0_pay68 (F := Ideal) lanes q (ix2 r l) : EReal) = if l.val < 64 then 0 else q (ix2 r l) := by
  pointwise [k0_pay68, lanes]
  refine (congrArg (fun w : BitVec 1 => Scalar.select w (q (ix2 r l)) (0 : EReal)) (?_ : _ = if l.val < 64 then 0#1 else 1#1)).trans ?_
  · clear q
    revert l
    decide +kernel
  · split <;> rfl

theorem scores_read (q : FVec Ideal S128x128 .bf16) (k : FVec Ideal S128x128 .f32) (i j : Fin 128) :
    (scores (F := Ideal) q k (ix2 i j) : EReal) = ∑ l : Fin 128, q (ix2 i l) * k (ix2 j l) := by
  pointwise [scores]

theorem pay69_read (v : Vec Ideal S1x128x128 .f32) (r e : Fin 128) : k0_pay69 v (ix2 r e) = v (ix3 0 r e) := by
  pointwise [k0_pay69]

theorem pay72_read (k : Vec Ideal S128x128 .f32) (v : Vec Ideal S128x128 .bf16) (st : Vec Ideal S1x128x128 .f32)
    (t1 t3 : Vec Ideal S1x1x128x128 .f32) (l e : Fin 128) :
    k0_pay72 k v st t1 t3 (ix3 0 l e) = st (ix3 0 l e) * t3 (ix4 0 0 l e) + ∑ r : Fin 128, (k (ix2 r l) * t1 (ix4 0 0 r l)) * v (ix2 r e) := by
  pointwise [k0_pay72, k0_pay71]

/-- What a row reads, before it is centred. -/
def rowRead (q v : Vec Ideal S128x128 .bf16) (w : Vec Ideal S128x128 .f32) (t0 : Vec Ideal S1x1x128x128 .f32) (st : Vec Ideal S1x128x128 .f32)
    (t2 : Vec Ideal S1x1x128x128 .f32) (r e : Fin 128) : EReal :=
  (∑ j : Fin 128, (w (ix2 r j) * t0 (ix4 0 0 r j)) * v (ix2 j e)) + (∑ l : Fin 128, q (ix2 r l) * st (ix3 0 l e)) * t2 (ix4 0 0 r e)

theorem pay73_read (q v : Vec Ideal S128x128 .bf16) (w : Vec Ideal S128x128 .f32) (t0 : Vec Ideal S1x1x128x128 .f32) (st : Vec Ideal S1x128x128 .f32)
    (t2 : Vec Ideal S1x1x128x128 .f32) (r e : Fin 128) :
    k0_pay73 q v w t0 st t2 (ix2 r e) = rowRead q v w t0 st t2 r e - mean (rowRead q v w t0 st t2 r) := by
  unfold mean rowRead
  pointwise [k0_pay73, k0_pay71]

theorem pay74_read (q v : Vec Ideal S128x128 .bf16) (w : Vec Ideal S128x128 .f32) (t0 : Vec Ideal S1x1x128x128 .f32) (st : Vec Ideal S1x128x128 .f32)
    (t2 : Vec Ideal S1x1x128x128 .f32) (r : Fin 128) :
    k0_pay74 q v w t0 st t2 (ix1 r) = ∑ e : Fin 128, k0_pay73 q v w t0 st t2 (ix2 r e) * k0_pay73 q v w t0 st t2 (ix2 r e) := by
  generalize hc : k0_pay73 q v w t0 st t2 = cc
  unfold k0_pay74
  rw [hc]
  pointwise

theorem one_add_exp (x : EReal) : 1 + Ideal.exp x ≠ 0 := by
  have h : (0 : EReal) ≤ Ideal.exp x := by
    induction x with
    | bot => exact le_of_eq rfl
    | top => exact le_top
    | coe x => exact EReal.coe_nonneg.mpr (Real.exp_pos x).le
  exact ne_of_gt (lt_of_lt_of_le zero_lt_one (le_add_of_nonneg_right h))

theorem pay75_read (cc : Vec Ideal S128x128 .f32) (ss : Vec Ideal S128 .f32) (g : Vec Ideal S1x128x128 .f32) (r e : Fin 128) :
    k0_pay75 cc ss g (ix3 0 r e) = cc (ix2 r e) * Ideal.rsqrt (Ideal.div (ss (ix1 r)) (Ideal.ofBits .f32 0x43000000#32) + Ideal.ofBits .f32 0x358637BD#32)
      * (g (ix3 0 r e) * Ideal.div 1 (1 + Ideal.exp (-g (ix3 0 r e)))) := by
  pointwise [k0_pay75]
  rw [Ideal.mul_one_div (one_add_exp _)]
  simp only [sub_eq_add_neg, zero_add]

end Cert.Retention

end
-- ==== Proof.RetentionValue.lean ====
/-
  The retention call over the extended reals: each grid point leaves the state that RetentionMath names and stores that
  module's output rows, so the result array is known at every index.
-/
module

public import proofs.«01_k».proof.Proof.RetentionPoint

@[expose] public section

set_option maxRecDepth 16384

noncomputable section

namespace Cert.Retention

open Cert.KernelIdeal Cert.KernelIdeal.Gen Cert.KernelIdeal.Value Idealize.ShloMosaic Idealize.ShloMosaic.TcCoe Idealize.SL.Sem

/-! ### Parts of blocks -/

theorem qkRows_read (x : Vec Ideal S1x512x128 .f32) (j : ℕ) (r l : Fin 128) :
    qkRows x j (ix3 0 r l) = x (ix3 0 ⟨128 * (j % 4) + r.val, by omega⟩ l) := by
  pointwise [qkRows]

theorem vgRows_read (x : Vec Ideal S1x512x256 .f32) (j h : ℕ) (r l : Fin 128) :
    vgRows x j h (ix3 0 r l) = x (ix3 0 ⟨128 * (j % 4) + r.val, by omega⟩ ⟨128 * (h % 2) + l.val, by omega⟩) := by
  pointwise [vgRows]

theorem csRows_read (x : Vec Ideal S512x128 .f32) (j : ℕ) (r l : Fin 128) :
    csRows x j (ix2 r l) = x (ix2 ⟨128 * (j % 4) + r.val, by omega⟩ l) := by
  pointwise [csRows]

theorem tabAt_read (x : Vec Ideal S2x4x128x128 .f32) (h i : ℕ) (r l : Fin 128) :
    tabAt x h i (ix4 0 0 r l) = x (ix4 ⟨h % 2, by omega⟩ ⟨i % 4, by omega⟩ r l) := by
  pointwise [tabAt]

theorem headState_read (x : Vec Ideal S2x128x128 .f32) (h : ℕ) (r l : Fin 128) :
    headState x h (ix3 0 r l) = x (ix3 ⟨h % 2, by omega⟩ r l) := by
  pointwise [headState]

theorem outRows_read (x : Vec Ideal S1x512x256 .bf16) (j h : ℕ) (r l : Fin 128) :
    outRows x j h (ix3 0 r l) = x (ix3 0 ⟨128 * (j % 4) + r.val, by omega⟩ ⟨128 * (h % 2) + l.val, by omega⟩) := by
  pointwise [outRows]

/-! ### The lanes of a head -/

/-- Lane `d` of a head's half. -/
def lane (hh : ℕ) (d : Fin 64) : Fin 128 := ⟨64 * (hh % 2) + d.val, by omega⟩

theorem rot_lanes (x : Fin 128 → EReal) (s : Fin 4096) (hh : ℕ) (d : Fin 64) :
    x (lane hh d) * cosT s ⟨(lane hh d).val % 32, by omega⟩
      + (if (lane hh d).val % 64 < 32 then x ⟨((lane hh d).val + 32) % 128, by omega⟩ else x ⟨((lane hh d).val + 96) % 128, by omega⟩)
        * (sinT s ⟨(lane hh d).val % 32, by omega⟩ * (if (lane hh d).val % 64 < 32 then -1 else 1))
      = rot (fun d => x (lane hh d)) s d := by
  unfold rot
  have hv : (lane hh d).val = 64 * (hh % 2) + d.val := rfl
  by_cases hd : d.val < 32
  · have hl : (lane hh d).val % 64 < 32 := by omega
    rw [dif_pos hd, if_pos hl, if_pos hl]
    have e1 : (⟨(lane hh d).val % 32, by omega⟩ : Fin 32) = ⟨d.val, hd⟩ := Fin.ext (by show (lane hh d).val % 32 = d.val; omega)
    have e2 : (⟨((lane hh d).val + 32) % 128, by omega⟩ : Fin 128) = lane hh ⟨32 + d.val, by omega⟩ :=
      Fin.ext (by show ((lane hh d).val + 32) % 128 = 64 * (hh % 2) + (32 + d.val); omega)
    rw [e1, e2, sub_eq_add_neg, mul_neg, mul_one, mul_neg]
  · have hl : ¬ (lane hh d).val % 64 < 32 := by omega
    rw [dif_neg hd, if_neg hl, if_neg hl]
    have e1 : (⟨(lane hh d).val % 32, by omega⟩ : Fin 32) = ⟨d.val - 32, by omega⟩ := Fin.ext (by show (lane hh d).val % 32 = d.val - 32; omega)
    have e2 : (⟨((lane hh d).val + 96) % 128, by omega⟩ : Fin 128) = lane hh ⟨d.val - 32, by omega⟩ :=
      Fin.ext (by show ((lane hh d).val + 96) % 128 = 64 * (hh % 2) + (d.val - 32); omega)
    have e3 : lane hh d = lane hh ⟨32 + (d.val - 32), by omega⟩ :=
      Fin.ext (by show 64 * (hh % 2) + d.val = 64 * (hh % 2) + (32 + (d.val - 32)); omega)
    rw [e1, e2, mul_one, add_comm]
    exact congrArg (fun z : Fin 128 => _ + x z * _) e3

theorem masked_sum (hh : ℕ) (q : FVec Ideal S128x128 .f32) (r : Fin 128) (y : Fin 128 → EReal) :
    ∑ l : Fin 128, (headQ (F := Ideal) hh q (ix2 r l) : EReal) * y l = ∑ d : Fin 64, q (ix2 r (lane hh d)) * y (lane hh d) := by
  rw [Fin.sum_univ_two_halves 64 64 rfl]
  unfold headQ
  rcases Nat.mod_two_eq_zero_or_one hh with h0 | h1
  · have e : ∀ d : Fin 64, lane hh d = ⟨d.val, by omega⟩ := fun d => Fin.ext (by show 64 * (hh % 2) + d.val = d.val; omega)
    rw [if_pos h0]
    refine (congrArg₂ (fun u v : EReal => u + v) (Finset.sum_congr (ι := Fin 64) (M := EReal) rfl fun d _ => ?_)
      (Finset.sum_eq_zero (ι := Fin 64) (M := EReal) fun d _ => ?_)).trans (add_zero _)
    · rw [pay82_read, if_pos (by exact d.isLt), e]
    · rw [pay82_read, if_neg (by show ¬ 64 + d.val < 64; omega), zero_mul]
  · have e : ∀ d : Fin 64, lane hh d = ⟨64 + d.val, by omega⟩ := fun d => Fin.ext (by show 64 * (hh % 2) + d.val = 64 + d.val; omega)
    rw [if_neg (by omega)]
    refine (congrArg₂ (fun u v : EReal => u + v) (Finset.sum_eq_zero (ι := Fin 64) (M := EReal) fun d _ => ?_)
      (Finset.sum_congr (ι := Fin 64) (M := EReal) rfl fun d _ => ?_)).trans (zero_add _)
    · rw [pay68_read, if_pos (by exact d.isLt), zero_mul]
    · rw [pay68_read, if_neg (by show ¬ 64 + d.val < 64; omega), e]

/-! ### One chunk of a grid point -/

section
variable (m : (ℓ : Loc nD τ sig) → Buf (Elt Ideal) ℓ) (c : Dev nD) (t : Fin cfg0.N)

/-- The number of a grid point's chunk. -/
def chunk (t : Fin cfg0.N) (j : ℕ) : ℕ := 4 * (t.val % 8) + j

theorem pos_eq (j : ℕ) (hj : j < 4) (r : Fin 128) (h : 512 * (t.val % 8) + (128 * (j % 4) + r.val) < 4096) :
    (⟨512 * (t.val % 8) + (128 * (j % 4) + r.val), h⟩ : Fin 4096) = posn (chunk t j) r :=
  Fin.ext (by
    show 512 * (t.val % 8) + (128 * (j % 4) + r.val) = 128 * ((4 * (t.val % 8) + j) % 32) + r.val
    omega)

theorem cosAt (j : ℕ) (hj : j < 4) (r l : Fin 128) :
    csRows (iblk m c 4 t) j (ix2 r l) = cosT (posn (chunk t j) r) ⟨l.val % 32, by omega⟩ := by
  refine (csRows_read _ j r l).trans ((cBlk m c t _ l).trans ((cos_read m c _ l).trans ?_))
  rw [← pos_eq t j hj r (by omega)]

theorem sinAt (j : ℕ) (hj : j < 4) (r l : Fin 128) :
    csRows (iblk m c 5 t) j (ix2 r l) = sinT (posn (chunk t j) r) ⟨l.val % 32, by omega⟩ * (if l.val % 64 < 32 then -1 else 1) := by
  refine (csRows_read _ j r l).trans ((sBlk m c t _ l).trans ((sin_read m c _ l).trans ?_))
  rw [← pos_eq t j hj r (by omega)]

theorem qAt (j : ℕ) (hj : j < 4) (r l : Fin 128) :
    qkRows (iblk m c 0 t) j (ix3 0 r l)
      = arg m c (ix2 ⟨4096 * (seq t).val + (posn (chunk t j) r).val, by omega⟩ ⟨128 * (t.val / 8 % 4) + l.val, by omega⟩) := by
  refine (qkRows_read _ j r l).trans ((qBlk m c t _ l).trans ((proj_read m c _ _ _).trans ?_))
  simp only [← pos_eq t j hj r (by omega)]

theorem kAt (j : ℕ) (hj : j < 4) (r l : Fin 128) :
    qkRows (iblk m c 1 t) j (ix3 0 r l)
      = arg m c (ix2 ⟨4096 * (seq t).val + (posn (chunk t j) r).val, by omega⟩ ⟨512 + 128 * (t.val / 8 % 4) + l.val, by omega⟩) := by
  refine (qkRows_read _ j r l).trans ((kBlk m c t _ l).trans ((proj_read m c _ _ _).trans ?_))
  simp only [← pos_eq t j hj r (by omega)]

theorem vAt (hh j : ℕ) (hj : j < 4) (r e : Fin 128) :
    vgRows (iblk m c 2 t) j hh (ix3 0 r e) = vRow (arg m c) (seq t) (head t hh) (posn (chunk t j) r) e := by
  refine (vgRows_read _ j hh r e).trans ((vBlk m c t _ _).trans ((proj_read m c _ _ _).trans ?_))
  unfold vRow
  simp only [← pos_eq t j hj r (by omega)]
  refine congrArg (fun z => arg m c (ix2 _ z)) (Fin.ext ?_)
  show 1024 + 256 * (t.val / 8 % 4) + (128 * (hh % 2) + e.val) = 1024 + (128 * (2 * (t.val / 8 % 4) + hh % 2) + e.val)
  omega

theorem gAt (hh j : ℕ) (hj : j < 4) (r e : Fin 128) :
    vgRows (iblk m c 3 t) j hh (ix3 0 r e) = gRow (arg m c) (seq t) (head t hh) (posn (chunk t j) r) e := by
  refine (vgRows_read _ j hh r e).trans ((gBlk m c t _ _).trans ((proj_read m c _ _ _).trans ?_))
  unfold gRow
  simp only [← pos_eq t j hj r (by omega)]
  refine congrArg (fun z => arg m c (ix2 _ z)) (Fin.ext ?_)
  show 2048 + 256 * (t.val / 8 % 4) + (128 * (hh % 2) + e.val) = 2048 + (128 * (2 * (t.val / 8 % 4) + hh % 2) + e.val)
  omega

theorem tab0At (hh : ℕ) (i j : Fin 128) : tabAt (iblk m c 6 t) hh 0 (ix4 0 0 i j) = decIn (head t hh) i j :=
  (tabAt_read _ hh 0 i j).trans ((tBlk m c t _ _ i j).trans (tab0_read m c _ i j))
theorem tab1At (hh : ℕ) (i j : Fin 128) : tabAt (iblk m c 6 t) hh 1 (ix4 0 0 i j) = decK (head t hh) i :=
  (tabAt_read _ hh 1 i j).trans ((tBlk m c t _ _ i j).trans (tab1_read m c _ i j))
theorem tab2At (hh : ℕ) (i j : Fin 128) : tabAt (iblk m c 6 t) hh 2 (ix4 0 0 i j) = decQ (head t hh) i :=
  (tabAt_read _ hh 2 i j).trans ((tBlk m c t _ _ i j).trans (tab2_read m c _ i j))
theorem tab3At (hh : ℕ) (i j : Fin 128) : tabAt (iblk m c 6 t) hh 3 (ix4 0 0 i j) = decC (head t hh) :=
  (tabAt_read _ hh 3 i j).trans ((tBlk m c t _ _ i j).trans (tab3_read m c _ i j))

theorem rotQAt (hh j : ℕ) (hj : j < 4) (r : Fin 128) (d : Fin 64) :
    rotQ (iblk m c 4 t) (iblk m c 5 t) (iblk m c 0 t) j (ix2 r (lane hh d)) = qRow (arg m c) (seq t) (head t hh) (posn (chunk t j) r) d := by
  unfold rotQ
  refine (pay52_read _ _ _ r (lane hh d)).trans ?_
  simp only [cosAt m c t j hj, sinAt m c t j hj, qAt m c t j hj]
  refine (rot_lanes (fun l => arg m c (ix2 ⟨4096 * (seq t).val + (posn (chunk t j) r).val, by omega⟩ ⟨128 * (t.val / 8 % 4) + l.val, by omega⟩))
    (posn (chunk t j) r) hh d).trans ?_
  unfold qRow
  refine congrArg (fun f => rot f (posn (chunk t j) r) d) (funext fun d => congrArg (fun z => arg m c (ix2 _ z)) (Fin.ext ?_))
  show 128 * (t.val / 8 % 4) + (64 * (hh % 2) + d.val) = 64 * (2 * (t.val / 8 % 4) + hh % 2) + d.val
  omega

theorem rotKAt (hh j : ℕ) (hj : j < 4) (r : Fin 128) (d : Fin 64) :
    rotK (iblk m c 4 t) (iblk m c 5 t) (iblk m c 1 t) j (ix2 r (lane hh d)) = kRow (arg m c) (seq t) (head t hh) (posn (chunk t j) r) d := by
  unfold rotK
  refine (pay53_read _ _ _ r (lane hh d)).trans ?_
  simp only [cosAt m c t j hj, sinAt m c t j hj, kAt m c t j hj]
  unfold kRow
  refine congrArg (fun z : EReal => z * Ideal.ofBits .f32 0x3E000000#32) ?_
  refine (rot_lanes (fun l => arg m c (ix2 ⟨4096 * (seq t).val + (posn (chunk t j) r).val, by omega⟩ ⟨512 + 128 * (t.val / 8 % 4) + l.val, by omega⟩))
    (posn (chunk t j) r) hh d).trans ?_
  refine congrArg (fun f => rot f (posn (chunk t j) r) d) (funext fun d => congrArg (fun z => arg m c (ix2 _ z)) (Fin.ext ?_))
  show 512 + 128 * (t.val / 8 % 4) + (64 * (hh % 2) + d.val) = 512 + (64 * (2 * (t.val / 8 % 4) + hh % 2) + d.val)
  omega

/-- A head's state holds, on its own lanes, the state before chunk `n`. -/
def Holds (hh n : ℕ) (st : Vec Ideal S1x128x128 .f32) : Prop :=
  ∀ (d : Fin 64) (e : Fin 128), st (ix3 0 (lane hh d) e) = state (arg m c) (seq t) (head t hh) n d e

theorem holds_next (hh j : ℕ) (hj : j < 4) (st : Vec Ideal S1x128x128 .f32) (h : Holds m c t hh (chunk t j) st) :
    Holds m c t hh (chunk t j + 1)
      (nextState (iblk m c 4 t) (iblk m c 5 t) (iblk m c 1 t) (iblk m c 2 t) (iblk m c 6 t) hh j st) := by
  intro d e
  unfold nextState
  refine (pay72_read _ _ _ _ _ _ _).trans ?_
  rw [h d e, tab3At]
  refine congrArg (fun z : EReal => state (arg m c) (seq t) (head t hh) (chunk t j) d e * decC (head t hh) + z) ?_
  unfold added
  refine Finset.sum_congr (ι := Fin 128) (M := EReal) rfl fun r _ => ?_
  rw [rotKAt m c t hh j hj, tab1At, pay69_read, vAt m c t hh j hj]

theorem holds_at (hh : ℕ) (st : Vec Ideal S1x128x128 .f32) (h : Holds m c t hh (chunk t 0) st) :
    ∀ j : ℕ, j ≤ 4 → Holds m c t hh (chunk t j)
      (stateAt (iblk m c 4 t) (iblk m c 5 t) (iblk m c 1 t) (iblk m c 2 t) (iblk m c 6 t) hh st j)
  | 0, _ => h
  | j + 1, hj => holds_next m c t hh j hj _ (holds_at hh st h j (by omega))

theorem reads_at (hh j : ℕ) (hj : j < 4) (st : Vec Ideal S1x128x128 .f32) (h : Holds m c t hh (chunk t j) st) (r e : Fin 128) :
    rowRead (headQ hh (rotQ (iblk m c 4 t) (iblk m c 5 t) (iblk m c 0 t) j)) (k0_pay69 (vgRows (iblk m c 2 t) j hh))
        (scores (headQ hh (rotQ (iblk m c 4 t) (iblk m c 5 t) (iblk m c 0 t) j)) (rotK (iblk m c 4 t) (iblk m c 5 t) (iblk m c 1 t) j))
        (tabAt (iblk m c 6 t) hh 0) st (tabAt (iblk m c 6 t) hh 2) r e
      = reads (arg m c) (seq t) (head t hh) (chunk t j) r e := by
  unfold rowRead reads
  rw [masked_sum, tab2At]
  refine congrArg₂ (fun u v : EReal => u + v * decQ (head t hh) r) (Finset.sum_congr (ι := Fin 128) (M := EReal) rfl fun i _ => ?_)
    (Finset.sum_congr (ι := Fin 64) (M := EReal) rfl fun d _ => ?_)
  · rw [scores_read, masked_sum, tab0At, pay69_read, vAt m c t hh j hj]
    refine congrArg (fun z : EReal => z * decIn (head t hh) r i * _) (Finset.sum_congr (ι := Fin 64) (M := EReal) rfl fun d _ => ?_)
    rw [rotQAt m c t hh j hj, rotKAt m c t hh j hj]
  · rw [rotQAt m c t hh j hj, h d e]

theorem chunk_at (hh j : ℕ) (hj : j < 4) (st : Vec Ideal S1x128x128 .f32) (h : Holds m c t hh (chunk t j) st) (r e : Fin 128) :
    (chunkOut (iblk m c 4 t) (iblk m c 5 t) (iblk m c 0 t) (iblk m c 1 t) (iblk m c 2 t) (iblk m c 3 t) (iblk m c 6 t) hh j st (ix3 0 r e) : EReal)
      = outRow (arg m c) (seq t) (head t hh) (chunk t j) r e := by
  unfold chunkOut
  refine (pay75_read _ _ _ r e).trans ?_
  rw [pay74_read, gAt m c t hh j hj]
  simp only [pay73_read]
  have hr := funext fun e => reads_at m c t hh j hj st h r e
  unfold outRow unit
  rw [← hr]
  rfl

/-! ### The grid points in order -/

theorem zero_at (hh : ℕ) (l e : Fin 128) : headState (F := Ideal) (k0_pay2 (F := Ideal)) hh (ix3 0 l e) = (0 : EReal) := by
  refine (headState_read _ hh l e).trans ?_
  pointwise [k0_pay2]

/-- The state a grid point begins with. -/
def entry (hh : ℕ) : Vec Ideal S1x128x128 .f32 :=
  if t.val % 8 = 0 then headState (k0_pay2 (F := Ideal)) hh
  else headState (outsAt0 m c (t.val - 1) (Nat.lt_of_le_of_lt (Nat.sub_le _ _) t.isLt)).2 hh

theorem state_point (hh : ℕ) (hlt : hh < 2) : headState (outsAt0 m c t.val t.isLt).2 hh
    = stateAt (iblk m c 4 t) (iblk m c 5 t) (iblk m c 1 t) (iblk m c 2 t) (iblk m c 6 t) hh (entry m c t hh) 4 := by
  unfold entry
  by_cases h : t.val % 8 = 0
  · rw [if_pos h]; exact state_first m c t h hh hlt
  · rw [if_neg h]; exact state_next m c t h hh hlt

theorem out_point (hh j : ℕ) (hlt : hh < 2) (hj : j < 4) : outRows (outsAt0 m c t.val t.isLt).1 j hh
    = chunkOut (iblk m c 4 t) (iblk m c 5 t) (iblk m c 0 t) (iblk m c 1 t) (iblk m c 2 t) (iblk m c 3 t) (iblk m c 6 t) hh j
        (stateAt (iblk m c 4 t) (iblk m c 5 t) (iblk m c 1 t) (iblk m c 2 t) (iblk m c 6 t) hh (entry m c t hh) j) := by
  unfold entry
  by_cases h : t.val % 8 = 0
  · rw [if_pos h]; exact out_first m c t h j hh hj hlt
  · rw [if_neg h]; exact out_next m c t h j hh hj hlt
end

variable (m : (ℓ : Loc nD τ sig) → Buf (Elt Ideal) ℓ) (c : Dev nD)

theorem entry_holds (hh : ℕ) (hlt : hh < 2) : ∀ (n : ℕ) (hn : n < cfg0.N), Holds m c ⟨n, hn⟩ hh (chunk ⟨n, hn⟩ 0) (entry m c ⟨n, hn⟩ hh)
  | 0, hn => by
    intro d e
    exact zero_at hh (lane hh d) e
  | n + 1, hn => by
    intro d e
    by_cases h : (n + 1) % 8 = 0
    · have e1 : entry m c ⟨n + 1, hn⟩ hh = headState (k0_pay2 (F := Ideal)) hh := if_pos h
      have e2 : chunk ⟨n + 1, hn⟩ 0 = 0 := by show 4 * ((n + 1) % 8) + 0 = 0; omega
      rw [e1, e2]
      exact zero_at hh (lane hh d) e
    · have hn' : n < cfg0.N := Nat.lt_of_succ_lt hn
      have e1 : entry m c ⟨n + 1, hn⟩ hh = headState (outsAt0 m c n hn').2 hh := if_neg h
      rw [e1]
      have hs := holds_at m c ⟨n, hn'⟩ hh _ (entry_holds hh hlt n hn') 4 (Nat.le_refl _) d e
      rw [← state_point m c ⟨n, hn'⟩ hh hlt] at hs
      refine hs.trans ?_
      have e2 : chunk ⟨n, hn'⟩ 4 = chunk ⟨n + 1, hn⟩ 0 := by show 4 * (n % 8) + 4 = 4 * ((n + 1) % 8) + 0; omega
      have e3 : seq ⟨n, hn'⟩ = seq ⟨n + 1, hn⟩ := Fin.ext (by show n / 32 = (n + 1) / 32; omega)
      have e4 : head ⟨n, hn'⟩ hh = head ⟨n + 1, hn⟩ hh :=
        Fin.ext (by show 2 * (n / 8 % 4) + hh % 2 = 2 * ((n + 1) / 8 % 4) + hh % 2; omega)
      rw [e2, e3, e4]

/-- What a grid point stores. -/
theorem stored (t : Fin cfg0.N) (hh j : ℕ) (hlt : hh < 2) (hj : j < 4) (r e : Fin 128) :
    (outRows (outsAt0 m c t.val t.isLt).1 j hh (ix3 0 r e) : EReal) = outRow (arg m c) (seq t) (head t hh) (chunk t j) r e := by
  rw [out_point m c t hh j hlt hj]
  exact chunk_at m c t hh j hj _ (holds_at m c t hh _ (entry_holds m c hh hlt t.val t.isLt) j (by omega)) r e

/-- The result array. -/
def result : Vec Ideal S4x4096x1024 .bf16 := fun i =>
  outRow (arg m c) (i 0) ⟨(i 2).val / 128, by have : (i 2).val < 1024 := (i 2).isLt; omega⟩ ((i 1).val / 128)
    ⟨(i 1).val % 128, by omega⟩ ⟨(i 2).val % 128, by omega⟩

theorem result_eq : (dats m 0 c).arrAt 7 cfg0.N = result m c := by
  refine (dats m 0 c).arrAt_eq_of_covers 7 (result m c) (by decide +kernel) fun t hf y => ?_
  blk_simp [ridx7]
  rw [after0_7]
  obtain ⟨a, r, l, rfl⟩ : ∃ (a : Fin 1) (r : Fin 512) (l : Fin 256), (y : S1x512x256.Idx) = ix3 a r l := ⟨y 0, y 1, y 2, eq_ix3 y⟩
  have ha : a = 0 := Subsingleton.elim _ _
  subst ha
  have e : (win0_7.blk t).view.emb (ix3 0 r l) = ix3 (seq t) (⟨512 * (t.val % 8) + r.val, by omega⟩ : Fin 4096)
      (⟨256 * (t.val / 8 % 4) + l.val, by omega⟩ : Fin 1024) := by blk_ext [ridx7, seq]
  refine Eq.trans ?_ (congrArg (result m c) e.symm)
  have hs := stored m c t (l.val / 128) (r.val / 128) (by omega) (by omega) ⟨r.val % 128, by omega⟩ ⟨l.val % 128, by omega⟩
  have hr := outRows_read (outsAt0 m c t.val t.isLt).1 (r.val / 128) (l.val / 128) ⟨r.val % 128, by omega⟩ ⟨l.val % 128, by omega⟩
  have e1 : (⟨128 * (r.val / 128 % 4) + r.val % 128, by omega⟩ : Fin 512) = r := Fin.ext (by show 128 * (r.val / 128 % 4) + r.val % 128 = r.val; omega)
  have e2 : (⟨128 * (l.val / 128 % 2) + l.val % 128, by omega⟩ : Fin 256) = l := Fin.ext (by show 128 * (l.val / 128 % 2) + l.val % 128 = l.val; omega)
  rw [e1, e2] at hr
  refine (hr.symm.trans hs).trans ?_
  show outRow _ _ _ _ _ _ = outRow (arg m c) (seq t) ⟨(256 * (t.val / 8 % 4) + l.val) / 128, _⟩ ((512 * (t.val % 8) + r.val) / 128)
    ⟨(512 * (t.val % 8) + r.val) % 128, _⟩ ⟨(256 * (t.val / 8 % 4) + l.val) % 128, _⟩
  have f1 : head t (l.val / 128) = ⟨(256 * (t.val / 8 % 4) + l.val) / 128, by omega⟩ :=
    Fin.ext (by show 2 * (t.val / 8 % 4) + l.val / 128 % 2 = (256 * (t.val / 8 % 4) + l.val) / 128; omega)
  have f2 : chunk t (r.val / 128) = (512 * (t.val % 8) + r.val) / 128 := by
    show 4 * (t.val % 8) + r.val / 128 = (512 * (t.val % 8) + r.val) / 128; omega
  have f3 : (⟨r.val % 128, by omega⟩ : Fin 128) = ⟨(512 * (t.val % 8) + r.val) % 128, by omega⟩ :=
    Fin.ext (by show r.val % 128 = (512 * (t.val % 8) + r.val) % 128; omega)
  have f4 : (⟨l.val % 128, by omega⟩ : Fin 128) = ⟨(256 * (t.val / 8 % 4) + l.val) % 128, by omega⟩ :=
    Fin.ext (by show l.val % 128 = (256 * (t.val / 8 % 4) + l.val) % 128; omega)
  rw [f1, f2, f3, f4]

/-- The reference's result is the same array. -/
theorem reference_eq (x : S16384x6656.Idx → EReal) (hx : arg m c = x) :
    Cert.ReferenceIdeal.Step.R_main_v257 (scanState (F := Ideal) x 32) x = result m c := by
  subst hx
  rw [result_stages]
  funext i
  obtain ⟨b, s, l, rfl⟩ : ∃ (b : Fin 4) (s : Fin 4096) (l : Fin 1024), (i : S4x4096x1024.Idx) = ix3 b s l := ⟨i 0, i 1, i 2, eq_ix3 i⟩
  have hs : (⟨128 * (s.val / 128) + s.val % 128, by omega⟩ : Fin 4096) = s := Fin.ext (by show 128 * (s.val / 128) + s.val % 128 = s.val; omega)
  have hl : (⟨128 * (l.val / 128) + l.val % 128, by omega⟩ : Fin 1024) = l := Fin.ext (by show 128 * (l.val / 128) + l.val % 128 = l.val; omega)
  have h := out_read (arg m c) b ⟨l.val / 128, by omega⟩ ⟨s.val / 128, by omega⟩ ⟨s.val % 128, by omega⟩ ⟨l.val % 128, by omega⟩
  rw [hs, hl] at h
  exact h

end Cert.Retention

end
-- ==== Proof.RetentionClaim.lean ====
/-
  The claim about the retention: over the extended reals the kernel returns, for every argument, what the reference returns.
-/
module

public import proofs.«01_k».proof.Defs
public import proofs.«01_k».proof.Proof.RetentionValue

@[expose] public section

noncomputable section

namespace Cert.Retention

open Idealize.ShloMosaic Idealize.ShloMosaic.TcCoe Idealize.SL.Sem

theorem algebraic : Cert.algebraic_KernelIdeal_ReferenceIdeal := by
  intro m ρ m' ρ' _ hagree
  refine ⟨fun c => result m c, ?_, ?_⟩
  · refine (θ_run Cert.KernelIdeal.defs _ _).mono (fun _ h c => ?_) (Cert.KernelIdeal.Value.run_blocks (F := Ideal) m ρ)
    exact ⟨(h c).1.trans (result_eq m c), (h c).2⟩
  · refine (θ_run Cert.ReferenceIdeal.defs _ _).mono (fun _ h c => ?_) (run_reference (F := Ideal) m' ρ')
    exact ⟨(h c).1.trans (reference_eq m c _ (hagree c).symm), (h c).2⟩

end Cert.Retention

end
-- ==== Proof.InProjClaim.lean ====
/-
  The claim about the norm and input projection: from equal arguments the call and its reference end with equal results.
-/
module

public import proofs.«01_k».proof.Defs
public import proofs.«01_k».proof.Proof.InProjValue
public import proofs.«01_k».proof.Proof.Gen.Kernel2Ideal.Frame
public import proofs.«01_k».proof.Proof.Gen.Reference2Ideal.Run

@[expose] public section

noncomputable section

namespace Cert.InProj

open Idealize.ShloMosaic Idealize.ShloMosaic.TcCoe Idealize.SL.Sem

theorem algebraic : Cert.algebraic_Kernel2Ideal_Reference2Ideal := by
  intro m ρ m' ρ' _ hagree
  refine ⟨fun c => result m c, Cert.Kernel2Ideal.Value.run (F := Ideal) m ρ, ?_⟩
  refine (θ_run Cert.Reference2Ideal.defs _ _).mono (fun _ h c => ⟨(h c).1.trans ?_, (h c).2⟩)
    (Cert.Reference2Ideal.Value.run (F := Ideal) m' ρ')
  obtain ⟨h0, h1, h2⟩ := hagree c
  refine (Cert.Reference2Ideal.Read.val_main_v26_eq m' c).trans ?_
  rw [h0, h1, h2]
  exact (result_eq m c).symm

end Cert.InProj

end
-- ==== Proof.ExpertsMath.lean ====
/-
  The mathematics of the expert retrieval. An expert has two sub-keys; a head gates it by the two scores it gives them,
  where their sum reaches the head's threshold. The expert's weight is its gates' sum over the heads, and the result is
  the residual row with every expert's output row added, weighted by its weight and its activation. The kernel computes
  a gate as a product of two exponentials and sums the experts in sixteen steps.
-/
module

public import Idealize.ShloMosaic.PureOps.Ideal
public import Idealize.ShloMosaic.PureOps.Ideal.Laws

@[expose] public section

noncomputable section

namespace Cert.Experts

open Idealize.ShloMosaic

theorem exp_bot : Ideal.exp ⊥ = 0 := rfl

theorem exp_top : Ideal.exp ⊤ = ⊤ := rfl

/-- The exponential of a sum is the product of the exponentials, on all extended reals. -/
theorem exp_add (a b : EReal) : Ideal.exp (a + b) = Ideal.exp a * Ideal.exp b := by
  induction a with
  | bot => rw [EReal.bot_add, exp_bot, zero_mul]
  | top =>
    induction b with
    | bot => rw [EReal.add_bot, exp_bot, mul_zero]
    | top => rw [EReal.top_add_top, exp_top, EReal.top_mul_top]
    | coe y =>
      show (⊤ : EReal) = ⊤ * ((Real.exp y : ℝ) : EReal)
      exact (EReal.top_mul_coe_of_pos (Real.exp_pos y)).symm
  | coe x =>
    induction b with
    | bot => rw [EReal.add_bot, exp_bot, mul_zero]
    | top =>
      show (⊤ : EReal) = ((Real.exp x : ℝ) : EReal) * ⊤
      exact (EReal.coe_mul_top_of_pos (Real.exp_pos x)).symm
    | coe y =>
      show ((Real.exp (x + y) : ℝ) : EReal) = ((Real.exp x : ℝ) : EReal) * ((Real.exp y : ℝ) : EReal)
      rw [Real.exp_add, EReal.coe_mul]

/-- A head's gate of an expert: the scores `s1`, `s2` of its sub-keys, the threshold, the two maxima and the inverse
of the sum that normalises. -/
def gate (s1 s2 tau m1 m2 iz : EReal) : EReal :=
  if tau ≤ s1 + s2 then Ideal.exp ((s1 - m1) + (s2 - m2)) * iz else 0

/-- The same gate from the two exponentials. -/
theorem gate_split (s1 s2 tau m1 m2 iz : EReal) :
    (if tau ≤ s1 + s2 then Ideal.exp (s2 - m2) * (Ideal.exp (s1 - m1) * iz) else 0) = gate s1 s2 tau m1 m2 iz := by
  unfold gate
  rw [exp_add, mul_comm (Ideal.exp (s1 - m1)) (Ideal.exp (s2 - m2)), mul_assoc]

/-- The exact GELU. -/
def gelu (x : EReal) : EReal :=
  (Ideal.ofBits .f32 0x3F000000#32 * x) * (1 + Ideal.erf (x * Ideal.ofBits .f32 0x3F3504F3#32))

/-- GELU by the complementary error function. -/
theorem gelu_erfc (x : EReal) :
    (Ideal.ofBits .f32 0x3F000000#32 * x) * Ideal.erfc (-x * Ideal.ofBits .f32 0x3F3504F3#32) = gelu x := by
  unfold gelu
  rw [neg_mul, Ideal.erfc_neg]

section
variable (hid : Fin 1024 → EReal) (sc : Fin 2048 → EReal) (st : Fin 32 → EReal) (u v : Fin 16384 → Fin 1024 → EReal)

/-- Head `h`'s gate of the expert with sub-keys `a` and `b`. -/
def headGate (a b : Fin 128) (h : ℕ) : EReal :=
  gate (sc ⟨256 * (h % 8) + a.val, by omega⟩) (sc ⟨256 * (h % 8) + 128 + b.val, by omega⟩) (st ⟨h % 8, by omega⟩)
    (st ⟨8 + h % 8, by omega⟩) (st ⟨16 + h % 8, by omega⟩) (st ⟨24 + h % 8, by omega⟩)

/-- An expert's weight. -/
def weight (a b : Fin 128) : EReal := ∑ h : Fin 8, headGate sc st a b h.val

/-- An expert's activation. -/
def activation (e : Fin 16384) : EReal := gelu (∑ d, hid d * u e d)

/-- An expert's part of column `d` of the result. -/
def expert (e : Fin 16384) (d : Fin 1024) : EReal :=
  weight sc st ⟨e.val / 128, by omega⟩ ⟨e.val % 128, by omega⟩ * activation hid u e * v e d

/-- Column `d` of the retrieval's result for one token with residual `x`. -/
def retrieved (x : EReal) (d : Fin 1024) : EReal := x + ∑ e : Fin 16384, expert hid sc st u v e d

/-- The part of the experts below `n`. -/
def partialSum (d : Fin 1024) (n : ℕ) : EReal :=
  ∑ e ∈ Finset.range n, expert hid sc st u v ⟨e % 16384, Nat.mod_lt _ (by decide)⟩ d

theorem partialSum_zero (d : Fin 1024) : partialSum hid sc st u v d 0 = 0 := rfl

/-- One more step of 1024 experts. -/
theorem partialSum_step (d : Fin 1024) (k : ℕ) (hk : k < 16) : partialSum hid sc st u v d (1024 * (k + 1))
    = partialSum hid sc st u v d (1024 * k) + ∑ x : Fin 1024, expert hid sc st u v ⟨1024 * k + x.val, by omega⟩ d := by
  unfold partialSum
  rw [show 1024 * (k + 1) = 1024 * k + 1024 from rfl, Finset.sum_range_add]
  refine congrArg _ ((Finset.sum_range _).trans (Finset.sum_congr rfl fun x _ => ?_))
  exact congrArg (fun e => expert hid sc st u v e d) (Fin.ext (Nat.mod_eq_of_lt (by omega)))

theorem partialSum_all (d : Fin 1024) :
    partialSum hid sc st u v d (1024 * (15 + 1)) = ∑ e : Fin 16384, expert hid sc st u v e d := by
  refine (Finset.sum_range (n := 16384) _).trans (Finset.sum_congr rfl fun x _ => ?_)
  exact congrArg (fun e => expert hid sc st u v e d) (Fin.ext (Nat.mod_eq_of_lt x.isLt))

end

end Cert.Experts

end
-- ==== Proof.ExpertsBlock.lean ====
/-
  What one grid point of the expert retrieval leaves behind. A point holds 512 tokens and one step of 1024 experts: eight
  chunks of 128 experts with the same first sub-key. It computes the experts' activations, the chunks' gates summed over
  the eight heads, and adds the step's part to the accumulator. The first step of a token tile clears the accumulator and
  stores the second halves' exponentials; the last step adds the residual rows and stores the output.
-/
module

public import proofs.«01_k».proof.Proof.RetentionClaim
public import proofs.«01_k».proof.Proof.Gen.Kernel4Ideal.Value
public import Idealize.ShloMosaic.Lib.Pipeline.ValueKit.Tiles
public import Idealize.ShloMosaic.Lib.Pipeline.ReadBack

@[expose] public section

set_option maxRecDepth 16384

noncomputable section

namespace Cert.Experts

open Cert.Kernel4Ideal Cert.Kernel4Ideal.Gen Cert.Kernel4Ideal.Value Idealize.ShloMosaic Idealize.ShloMosaic.TcCoe Idealize.SL.Sem

variable {F : FTy → Type} [FloatOps F]

/-- A load of a rectangle of a written array is the load of what was written. -/
theorem ld_canon {κ : Kind} {sp : Space} {s : Shape} {e : EltTy} (v : View sig κ sp s e) (L : List (View.Piece (Elt F) s e)) (r : Rect s) :
    View.ld (View.canon L) r = v.readCov L r.toLoadRect :=
  (View.readCov_eq_canon' v L r.toLoadRect).symm

/-- A head's scores of the chunk's first sub-key. -/
def firstScore (x1 : Vec F S2048x512 .f32) (i : grid0.Coords) (cc h : ℕ) : Vec F S1x512 .f32 :=
  View.ld x1 (Rect.unit (k0_off1 i (BitVec.ofNat 32 (256 * (h % 8))) (BitVec.ofNat 32 (cc % 8))) ![1, 512]
    (k0_off1_inb i ⟨h % 8, Nat.mod_lt h (by decide)⟩ ⟨cc % 8, Nat.mod_lt cc (by decide)⟩))

/-- A head's scores of all second sub-keys. -/
def secondScores (x1 : Vec F S2048x512 .f32) (h : ℕ) : Vec F S128x512 .f32 :=
  View.ld x1 (Rect.unit ![256 * (h % 8) + 128, 0] ![128, 512] (by
    intro a; have := Nat.mod_lt h (show 8 > 0 by decide)
    fin_cases a
    · show 256 * (h % 8) + 128 + 128 ≤ 2048; omega
    · exact Nat.le_refl _))

/-- One row of the statistics. -/
def statRow (x2 : Vec F S32x512 .f32) (r : ℕ) : Vec F S1x512 .f32 :=
  View.ld x2 (Rect.unit ![r % 32, 0] ![1, 512] (by
    intro a; fin_cases a <;> first | exact Nat.mod_lt r (by decide) | exact Nat.le_refl _))

/-- One head's part of the stored exponentials. -/
def headExp (x : Vec F S8x128x512 .f32) (h : ℕ) : Vec F S1x128x512 .f32 :=
  View.ld x (Rect.unit ![h % 8, 0, 0] ![1, 128, 512] (by
    intro a; fin_cases a <;> first | exact Nat.le_refl _ | exact Nat.mod_lt h (by decide)))

/-- The exponentials of the second halves, as the first step of a tile stores them. -/
def newExp (x1 : Vec F S2048x512 .f32) (x2 : Vec F S32x512 .f32) (h : ℕ) : Vec F S1x128x512 .f32 :=
  k0_pay4 (secondScores x1 h) (statRow x2 (16 + h % 8))

/-- The gates of one chunk with one more head's added. -/
def addHead (s1 : Vec F S1x512 .f32) (s2 : Vec F S128x512 .f32) (tau m1 iz : Vec F S1x512 .f32) (e : Vec F S1x128x512 .f32)
    (w : FVec F S128x512 .f32) : FVec F S128x512 .f32 :=
  addf w (select (cmpf .oge (addf (broadcastTo S128x512 s1 broadcasts_S1x512_S128x512) s2) (broadcastTo S128x512 tau broadcasts_S1x512_S128x512))
    (mulf (shapeCast S128x512 e shapeCasts_S1x128x512_S128x512)
      (broadcastTo S128x512 (mulf (exp (subf s1 m1)) iz) broadcasts_S1x512_S128x512))
    (broadcast S128x512 (Scalar.ofBits .f32 0x00000000#32)))

/-- The gates of one chunk, summed over the first heads. -/
def gateSum (x1 : Vec F S2048x512 .f32) (x2 : Vec F S32x512 .f32) (e : ℕ → Vec F S1x128x512 .f32) (i : grid0.Coords) (cc : ℕ) :
    ℕ → FVec F S128x512 .f32
  | 0 => broadcast S128x512 (Scalar.ofBits .f32 0x00000000#32)
  | h + 1 => addHead (firstScore x1 i cc h) (secondScores x1 h) (statRow x2 (h % 8)) (statRow x2 (8 + h % 8)) (statRow x2 (24 + h % 8)) (e h)
      (gateSum x1 x2 e i cc h)

/-- Where a chunk's rows start. -/
theorem slice_ok (cc : ℕ) : S1024x512.Slices ![128 * (cc % 8), 0] S128x512 := by
  have := Nat.mod_lt cc (show 8 > 0 by decide)
  interval_cases cc % 8 <;> decide

/-- The 128 rows of one chunk: activations times gates. -/
def gatedRows (act : FVec F S1024x512 .f32) (w : FVec F S128x512 .f32) (cc : ℕ) : FVec F S128x512 .bf16 :=
  shapeCast S128x512 (truncf .bf16 (mulf w (extractStridedSlice S128x512 ![128 * (cc % 8), 0] act (slice_ok cc))) bitsLt_bf16_f32)
    shapeCasts_S128x512_S128x512

/-- Where a chunk's rows lie in the step's 1024. -/
def chunkRect (cc : ℕ) : Rect S1024x512 :=
  Rect.unit ![128 * (cc % 8), 0] ![128, 512] (by
    intro a; have := Nat.mod_lt cc (show 8 > 0 by decide)
    fin_cases a
    · show 128 * (cc % 8) + 128 ≤ 1024; omega
    · exact Nat.le_refl _)

/-- The rows a step stores for one chunk, from the blocks and the stored exponentials. -/
def chunkRows (x0 : Vec F S1024x512 .bf16) (x1 : Vec F S2048x512 .f32) (x2 : Vec F S32x512 .f32) (x3 : Vec F S1024x1024 .bf16)
    (e : ℕ → Vec F S1x128x512 .f32) (i : grid0.Coords) (cc : ℕ) : FVec F S128x512 .bf16 :=
  gatedRows (k0_pay12 x3 x0) (gateSum x1 x2 e i cc 8) cc

/-- All 1024 rows of a step: its eight chunks. -/
def stepRows (x0 : Vec F S1024x512 .bf16) (x1 : Vec F S2048x512 .f32) (x2 : Vec F S32x512 .f32) (x3 : Vec F S1024x1024 .bf16)
    (e : ℕ → Vec F S1x128x512 .f32) (i : grid0.Coords) : Vec F S1024x512 .bf16 :=
  (View.whole cc0_scratch2).readCov
    [⟨chunkRect 7, chunkRows x0 x1 x2 x3 e i 7⟩, ⟨chunkRect 6, chunkRows x0 x1 x2 x3 e i 6⟩,
     ⟨chunkRect 5, chunkRows x0 x1 x2 x3 e i 5⟩, ⟨chunkRect 4, chunkRows x0 x1 x2 x3 e i 4⟩,
     ⟨chunkRect 3, chunkRows x0 x1 x2 x3 e i 3⟩, ⟨chunkRect 2, chunkRows x0 x1 x2 x3 e i 2⟩,
     ⟨chunkRect 1, chunkRows x0 x1 x2 x3 e i 1⟩, ⟨chunkRect 0, chunkRows x0 x1 x2 x3 e i 0⟩]
    (Rect.unit ![0, 0] ![1024, 512] inb_S1024x512_S1024x512_0_0).toLoadRect

/-- The accumulator after a step. -/
def nextAcc (x0 : Vec F S1024x512 .bf16) (x1 : Vec F S2048x512 .f32) (x2 : Vec F S32x512 .f32) (x3 x4 : Vec F S1024x1024 .bf16)
    (e : ℕ → Vec F S1x128x512 .f32) (i : grid0.Coords) (acc : Vec F S1024x512 .f32) : Vec F S1024x512 .f32 :=
  k0_pay1 acc (k0_pay99 x4) (stepRows x0 x1 x2 x3 e i) (constant S1024x512 .f32 0x00000000#32)

variable (m : (ℓ : Loc nD τ sig) → Buf (Elt F) ℓ) (c : Dev nD)

/-- A middle step adds to the accumulator of the step before. -/
theorem acc_middle (t : Fin cfg0.N) (h0 : ¬ t.val % 16 = 0) (h1 : ¬ t.val % 16 = 15) :
    (outsAt0 m c t.val t.isLt).2.1
      = nextAcc (iblk m c 0 t) (iblk m c 1 t) (iblk m c 2 t) (iblk m c 3 t) (iblk m c 4 t)
          (headExp (outsAt0 m c (t.val - 1) (Nat.lt_of_le_of_lt (Nat.sub_le _ _) t.isLt)).2.2) (grid0.coords t)
          (outsAt0 m c (t.val - 1) (Nat.lt_of_le_of_lt (Nat.sub_le _ _) t.isLt)).2.1 := by
  rw [outsAt0_B m c t h0 h1]
  dsimp only
  frame_open
  simp (disch := decide) only [↓ View.readCov_skip, ↓ View.readCov_cons_toLoadRect, ↓ View.readCov_fill]
  frame_out
  simp only [read_unread_whole]
  rfl

/-- So does the last step. -/
theorem acc_last (t : Fin cfg0.N) (h0 : ¬ t.val % 16 = 0) (h1 : t.val % 16 = 15) :
    (outsAt0 m c t.val t.isLt).2.1
      = nextAcc (iblk m c 0 t) (iblk m c 1 t) (iblk m c 2 t) (iblk m c 3 t) (iblk m c 4 t)
          (headExp (outsAt0 m c (t.val - 1) (Nat.lt_of_le_of_lt (Nat.sub_le _ _) t.isLt)).2.2) (grid0.coords t)
          (outsAt0 m c (t.val - 1) (Nat.lt_of_le_of_lt (Nat.sub_le _ _) t.isLt)).2.1 := by
  rw [outsAt0_C m c t h0 h1]
  dsimp only
  frame_open
  simp (disch := decide) only [↓ View.readCov_skip, ↓ View.readCov_cons_toLoadRect, ↓ View.readCov_fill]
  frame_out
  simp only [read_unread_whole]
  rfl

/-- The first step starts from a cleared accumulator and the exponentials it has just stored. -/
theorem acc_first (t : Fin cfg0.N) (h0 : t.val % 16 = 0) (h1 : ¬ t.val % 16 = 15) :
    (outsAt0 m c t.val t.isLt).2.1
      = nextAcc (iblk m c 0 t) (iblk m c 1 t) (iblk m c 2 t) (iblk m c 3 t) (iblk m c 4 t)
          (newExp (iblk m c 1 t) (iblk m c 2 t)) (grid0.coords t) (k0_pay3 (F := F)) := by
  rw [outsAt0_A m c t h0 h1]
  dsimp only
  frame_open
  simp (disch := decide) only [↓ View.readCov_skip, ↓ View.readCov_cons_toLoadRect, ↓ View.readCov_fill]
  frame_out
  rfl

/-- The last step stores the residual rows plus the accumulator. -/
theorem out_last (t : Fin cfg0.N) (h0 : ¬ t.val % 16 = 0) (h1 : t.val % 16 = 15) :
    (outsAt0 m c t.val t.isLt).1 = k0_pay2 (iblk m c 5 t) (outsAt0 m c t.val t.isLt).2.1 := by
  rw [outsAt0_C m c t h0 h1]
  dsimp only
  frame_open
  simp (disch := decide) only [↓ View.readCov_skip, ↓ View.readCov_cons_toLoadRect, ↓ View.readCov_fill]
  frame_out

/-- The first step stores each head's exponentials. -/
theorem exp_first (t : Fin cfg0.N) (h0 : t.val % 16 = 0) (h1 : ¬ t.val % 16 = 15) (h : ℕ) (hh : h < 8) :
    headExp (outsAt0 m c t.val t.isLt).2.2 h = newExp (iblk m c 1 t) (iblk m c 2 t) h := by
  rw [outsAt0_A m c t h0 h1]
  dsimp only
  frame_open
  simp (disch := decide) only [↓ View.readCov_skip, ↓ View.readCov_cons_toLoadRect, ↓ View.readCov_fill]
  frame_out
  unfold headExp
  interval_cases h <;>
  · simp only [Nat.reduceMod, Nat.reduceMul, ld_canon (View.whole cc0_scratch1)]
    simp (disch := decide) only [↓ View.readCov_skip, ↓ View.readCov_cons_toLoadRect]
    rfl

/-- The other steps keep them. -/
theorem exp_middle (t : Fin cfg0.N) (h0 : ¬ t.val % 16 = 0) (h1 : ¬ t.val % 16 = 15) :
    (outsAt0 m c t.val t.isLt).2.2 = (outsAt0 m c (t.val - 1) (Nat.lt_of_le_of_lt (Nat.sub_le _ _) t.isLt)).2.2 := by
  rw [outsAt0_B m c t h0 h1]
  dsimp only
  frame_open
  rfl

/-- The rows of one chunk among a step's rows. -/
theorem stepRows_chunk (x0 : Vec F S1024x512 .bf16) (x1 : Vec F S2048x512 .f32) (x2 : Vec F S32x512 .f32) (x3 : Vec F S1024x1024 .bf16)
    (e : ℕ → Vec F S1x128x512 .f32) (i : grid0.Coords) (cc : ℕ) (hcc : cc < 8) :
    View.ld (stepRows x0 x1 x2 x3 e i) (chunkRect cc) = chunkRows x0 x1 x2 x3 e i cc := by
  unfold stepRows
  rw [View.readCov_eq_canon' (View.whole cc0_scratch2)]
  refine (congrArg (fun x => View.ld x (chunkRect cc)) (View.ld_unit_lit inb_S1024x512_S1024x512_0_0 _ (by decide))).trans ?_
  refine (ld_canon (View.whole cc0_scratch2) _ _).trans ?_
  interval_cases cc <;>
  · dsimp only [chunkRect]
    simp (disch := decide) only [↓ View.readCov_skip, ↓ View.readCov_cons_toLoadRect]

end Cert.Experts
end
-- ==== Proof.ExpertsPoint.lean ====
/-
  One step of the expert retrieval over the extended reals: what the gates, the stored rows and the accumulator hold for
  one token, of the step's blocks.
-/
module

public import proofs.«01_k».proof.Proof.ExpertsMath
public import proofs.«01_k».proof.Proof.ExpertsBlock

@[expose] public section

set_option maxRecDepth 16384

noncomputable section

namespace Cert.Experts

open Cert.Kernel4Ideal Cert.Kernel4Ideal.Gen Cert.Kernel4Ideal.Value Idealize.ShloMosaic Idealize.ShloMosaic.TcCoe Idealize.SL.Sem

/-! ### The loads. -/

section
variable (x1 : Vec Ideal S2048x512 .f32) (x2 : Vec Ideal S32x512 .f32)

theorem off_row (i : grid0.Coords) (a b : ℕ) (ha : a < 4096) (hb : b < 8) :
    k0_off1 i (BitVec.ofNat 32 a) (BitVec.ofNat 32 b) 0 = a + (8 * (i 1).val + b) := by
  have hi : (i 1).val < 16 := (i 1).isLt
  show (BitVec.ofNat 32 a + (BitVec.ofNat 32 (i 1).val * 8#32 + BitVec.ofNat 32 b)).toNat = _
  simp only [BitVec.toNat_add, BitVec.toNat_mul, BitVec.toNat_ofNat]
  omega

theorem firstScore_read (i : grid0.Coords) (cc h : ℕ) (a : Fin 128) (ha : a.val = 8 * (i 1).val + cc % 8) (l : Fin 512) :
    firstScore x1 i cc h (ix2 0 l) = x1 (ix2 ⟨256 * (h % 8) + a.val, by omega⟩ l) := by
  refine View.ld_unit_apply_of x1 _ _ _ _ _ fun d => ?_
  fin_cases d
  · show 256 * (h % 8) + a.val = k0_off1 i (BitVec.ofNat 32 (256 * (h % 8))) (BitVec.ofNat 32 (cc % 8)) 0 + 0
    rw [off_row i _ _ (by omega) (by omega), ha]
    omega
  · exact (Nat.zero_add _).symm

theorem secondScores_read (h : ℕ) (b : Fin 128) (l : Fin 512) :
    secondScores x1 h (ix2 b l) = x1 (ix2 ⟨256 * (h % 8) + 128 + b.val, by omega⟩ l) := by
  refine View.ld_unit_apply_of x1 _ _ _ _ _ fun d => ?_
  fin_cases d
  · rfl
  · exact (Nat.zero_add _).symm

theorem statRow_read (r : ℕ) (l : Fin 512) : statRow x2 r (ix2 0 l) = x2 (ix2 ⟨r % 32, by omega⟩ l) := by
  refine View.ld_unit_apply_of x2 _ _ _ _ _ fun d => ?_
  fin_cases d
  · rfl
  · exact (Nat.zero_add _).symm

theorem statRow_of (r : ℕ) (hr : r < 32) (l : Fin 512) : statRow x2 r (ix2 0 l) = x2 (ix2 ⟨r, hr⟩ l) :=
  (statRow_read x2 r l).trans (congrArg (fun s => x2 (ix2 s l)) (Fin.ext (Nat.mod_eq_of_lt hr)))

/-- The exponentials the first step stores. -/
theorem newExp_read (h : ℕ) (b : Fin 128) (l : Fin 512) : newExp x1 x2 h (ix3 0 b l)
    = Ideal.exp (x1 (ix2 ⟨256 * (h % 8) + 128 + b.val, by omega⟩ l) - x2 (ix2 ⟨16 + h % 8, by omega⟩ l)) := by
  have e : ∀ (s : Vec Ideal S128x512 .f32) (r : Vec Ideal S1x512 .f32), k0_pay4 s r (ix3 0 b l) = Ideal.exp (s (ix2 b l) - r (ix2 0 l)) := by
    intro s r
    pointwise [k0_pay4]
  refine (e _ _).trans ?_
  rw [secondScores_read, statRow_of x2 (16 + h % 8) (by omega)]

end

/-! ### One chunk. -/

theorem addHead_read (s1 : Vec Ideal S1x512 .f32) (s2 : Vec Ideal S128x512 .f32) (tau m1 iz : Vec Ideal S1x512 .f32)
    (e : Vec Ideal S1x128x512 .f32) (w : FVec Ideal S128x512 .f32) (r : Fin 128) (l : Fin 512) :
    addHead s1 s2 tau m1 iz e w (ix2 r l) = w (ix2 r l) + (if tau (ix2 0 l) ≤ s1 (ix2 0 l) + s2 (ix2 r l) then
      e (ix3 0 r l) * (Ideal.exp (s1 (ix2 0 l) - m1 (ix2 0 l)) * iz (ix2 0 l)) else (0 : EReal)) := by
  pointwise [addHead]

theorem gatedRows_read (act : FVec Ideal S1024x512 .f32) (w : FVec Ideal S128x512 .f32) (cc : ℕ) (r : Fin 128) (l : Fin 512) :
    (gatedRows act w cc (ix2 r l) : EReal) = w (ix2 r l) * act (ix2 ⟨128 * (cc % 8) + r.val, by omega⟩ l) := by
  pointwise [gatedRows]

theorem activation_step (u : Vec Ideal S1024x1024 .bf16) (h : Vec Ideal S1024x512 .bf16) (x : Fin 1024) (l : Fin 512) :
    (k0_pay12 u h (ix2 x l) : EReal) = gelu (∑ d : Fin 1024, (h (ix2 d l) : EReal) * u (ix2 x d)) := by
  pointwise [k0_pay12]
  rw [show (∑ d : Fin 1024, (h (ix2 d l) : EReal) * u (ix2 x d)) = ∑ d : Fin 1024, (u (ix2 x d) : EReal) * h (ix2 d l) from
    Finset.sum_congr rfl fun d _ => mul_comm _ _]
  rfl

theorem acc_step (acc : Vec Ideal S1024x512 .f32) (x4 : Vec Ideal S1024x1024 .bf16) (g : Vec Ideal S1024x512 .bf16) (d : Fin 1024) (l : Fin 512) :
    (k0_pay1 acc (k0_pay99 x4) g (constant S1024x512 .f32 0x00000000#32) (ix2 d l) : EReal)
      = acc (ix2 d l) + ∑ x : Fin 1024, (x4 (ix2 d x) : EReal) * g (ix2 x l) := by
  pointwise [k0_pay1, k0_pay99]

section
variable (x0 : Vec Ideal S1024x512 .bf16) (x1 : Vec Ideal S2048x512 .f32) (x2 : Vec Ideal S32x512 .f32) (x3 x4 : Vec Ideal S1024x1024 .bf16)
  (e : ℕ → Vec Ideal S1x128x512 .f32) (i : grid0.Coords) (l : Fin 512)

/-- One token's columns of the blocks. -/
def colHid : Fin 1024 → EReal := fun d => x0 (ix2 d l)
def colSc : Fin 2048 → EReal := fun r => x1 (ix2 r l)
def colSt : Fin 32 → EReal := fun r => x2 (ix2 r l)

/-- That the stored exponentials are the second halves' of this token. -/
def Stored : Prop := ∀ (h : ℕ) (b : Fin 128), h < 8 → e h (ix3 0 b l)
  = Ideal.exp (colSc x1 l ⟨256 * (h % 8) + 128 + b.val, by omega⟩ - colSt x2 l ⟨16 + h % 8, by omega⟩)

/-- The gates of a chunk after some heads. -/
theorem gateSum_read (he : Stored x1 x2 e l) (cc : ℕ) (a : Fin 128) (ha : a.val = 8 * (i 1).val + cc % 8) (b : Fin 128) :
    ∀ n : ℕ, n ≤ 8 → (gateSum x1 x2 e i cc n (ix2 b l) : EReal) = ∑ h ∈ Finset.range n, headGate (colSc x1 l) (colSt x2 l) a b h
  | 0, _ => by
    rw [Finset.sum_range_zero]
    pointwise [gateSum]
  | n + 1, hn => by
    rw [Finset.sum_range_succ, ← gateSum_read he cc a ha b n (by omega)]
    refine (addHead_read _ _ _ _ _ _ _ b l).trans ?_
    rw [firstScore_read x1 i cc n a ha, secondScores_read, statRow_of x2 (n % 8) (by omega), statRow_of x2 (8 + n % 8) (by omega),
      statRow_of x2 (24 + n % 8) (by omega), he n b (by omega)]
    exact congrArg _ (gate_split _ _ _ _ _ _)

/-- The rows one chunk stores. -/
theorem chunkRows_read (he : Stored x1 x2 e l) (cc : ℕ) (a : Fin 128) (ha : a.val = 8 * (i 1).val + cc % 8) (b : Fin 128) :
    (chunkRows x0 x1 x2 x3 e i cc (ix2 b l) : EReal) = weight (colSc x1 l) (colSt x2 l) a b
      * gelu (∑ d : Fin 1024, colHid x0 l d * (x3 (ix2 (⟨128 * (cc % 8) + b.val, by omega⟩ : Fin 1024) d) : EReal)) := by
  refine (gatedRows_read _ _ cc b l).trans ?_
  refine congrArg₂ (fun u v : EReal => u * v) ?_ (activation_step x3 x0 _ l)
  exact (gateSum_read x1 x2 e i l he cc a ha b 8 le_rfl).trans (Finset.sum_range _)

/-- All rows of a step. -/
theorem stepRows_read (he : Stored x1 x2 e l) (x : Fin 1024) (a b : Fin 128) (hab : 128 * a.val + b.val = 1024 * (i 1).val + x.val) :
    (stepRows x0 x1 x2 x3 e i (ix2 x l) : EReal) = weight (colSc x1 l) (colSt x2 l) a b
      * gelu (∑ d : Fin 1024, colHid x0 l d * (x3 (ix2 x d) : EReal)) := by
  have h := congrFun (stepRows_chunk x0 x1 x2 x3 e i (x.val / 128) (by omega)) (ix2 b l)
  have hx : (⟨128 * (x.val / 128 % 8) + b.val, by omega⟩ : Fin 1024) = x :=
    Fin.ext (by show 128 * (x.val / 128 % 8) + b.val = x.val; omega)
  have hl : View.ld (stepRows x0 x1 x2 x3 e i) (chunkRect (x.val / 128)) (ix2 b l) = stepRows x0 x1 x2 x3 e i (ix2 x l) := by
    refine View.ld_unit_apply_of _ _ _ _ _ _ fun d => ?_
    fin_cases d
    · exact (congrArg Fin.val hx).symm
    · exact (Nat.zero_add _).symm
  refine (hl.symm.trans h).trans ?_
  have hc := chunkRows_read x0 x1 x2 x3 e i l he (x.val / 128) a (by omega) b
  rw [hx] at hc
  exact hc

/-- The accumulator after a step. -/
theorem nextAcc_read (he : Stored x1 x2 e l) (acc : Vec Ideal S1024x512 .f32) (d : Fin 1024) (k : ℕ) (hk : k < 16) (hi : (i 1).val = k) :
    (nextAcc x0 x1 x2 x3 x4 e i acc (ix2 d l) : EReal) = acc (ix2 d l) + ∑ x : Fin 1024,
      weight (colSc x1 l) (colSt x2 l) ⟨(1024 * k + x.val) / 128, by omega⟩ ⟨(1024 * k + x.val) % 128, by omega⟩
        * gelu (∑ d' : Fin 1024, colHid x0 l d' * (x3 (ix2 x d') : EReal)) * (x4 (ix2 d x) : EReal) := by
  refine (acc_step acc x4 _ d l).trans (congrArg (fun s : EReal => acc (ix2 d l) + s) (Finset.sum_congr rfl fun x _ => ?_))
  rw [stepRows_read x0 x1 x2 x3 e i l he x ⟨(1024 * k + x.val) / 128, by omega⟩ ⟨(1024 * k + x.val) % 128, by omega⟩
    (by show 128 * ((1024 * k + x.val) / 128) + (1024 * k + x.val) % 128 = _; omega)]
  exact mul_comm _ _

end

/-- The stored output: the residual rows and the accumulator's transpose. -/
theorem out_store (x : Vec Ideal S512x1024 .f32) (acc : Vec Ideal S1024x512 .f32) (l : Fin 512) (d : Fin 1024) :
    (k0_pay2 x acc (ix2 l d) : EReal) = x (ix2 l d) + acc (ix2 d l) := by
  pointwise [k0_pay2]

theorem acc_clear (d : Fin 1024) (l : Fin 512) : (k0_pay3 (F := Ideal) (ix2 d l) : EReal) = 0 := by
  pointwise [k0_pay3]

end Cert.Experts

end
-- ==== Proof.ExpertsReference.lean ====
/-
  The reference's result at a token and a column is the retrieval's of the token's rows.
-/
module

public import proofs.«01_k».proof.Proof.ExpertsMath
public import proofs.«01_k».proof.Proof.RetentionClaim
public import proofs.«01_k».proof.Proof.Gen.Reference4Ideal.Read

@[expose] public section

set_option maxRecDepth 16384

noncomputable section

namespace Cert.Experts

open Cert.Reference4Ideal Cert.Reference4Ideal.Read Idealize.ShloMosaic Idealize.ShloMosaic.TcCoe Idealize.SL.Sem

section
variable (x0 : S16384x1024.Idx → EReal) (x1 : S2048x16384.Idx → EReal) (x2 : S32x16384.Idx → EReal)
  (x3 x4 : S1x16384x1024.Idx → EReal) (x5 : S16384x1024.Idx → EReal)

/-- The rows of one token. -/
def tokHid (t : Fin 16384) : Fin 1024 → EReal := fun d => x0 (ix2 t d)
def tokSc (t : Fin 16384) : Fin 2048 → EReal := fun r => x1 (ix2 r t)
def tokSt (t : Fin 16384) : Fin 32 → EReal := fun r => x2 (ix2 r t)
/-- The experts' rows. -/
def rowsOf (x : S1x16384x1024.Idx → EReal) : Fin 16384 → Fin 1024 → EReal := fun e d => x (ix3 0 e d)

/-- Column `d` of the retrieval's result for token `t`. -/
def outAt (t : Fin 16384) (d : Fin 1024) : EReal :=
  retrieved (tokHid x0 t) (tokSc x1 t) (tokSt x2 t) (rowsOf x3) (rowsOf x4) (x5 (ix2 t d)) d

/-- A head's scores of the two sub-keys, in the comparison. -/
theorem first_read (t : Fin 16384) (h : Fin 8) (a b : Fin 128) :
    (val_main_v16 (F := Ideal) x1) (ix4 t h a b) = tokSc x1 t ⟨256 * (h.val % 8) + a.val, by omega⟩ := by
  pointwise [val_main_v16, val_main_v12, val_main_v11, val_main_v10, val_main_v1, val_main_v0]
  exact congrArg (tokSc x1 t) (Fin.ext (by show h.val * 256 + a.val = 256 * (h.val % 8) + a.val; omega))

theorem second_read (t : Fin 16384) (h : Fin 8) (a b : Fin 128) :
    (val_main_v17 (F := Ideal) x1) (ix4 t h a b) = tokSc x1 t ⟨256 * (h.val % 8) + 128 + b.val, by omega⟩ := by
  pointwise [val_main_v17, val_main_v15, val_main_v14, val_main_v13, val_main_v1, val_main_v0]
  exact congrArg (tokSc x1 t) (Fin.ext (by show h.val * 256 + 128 + b.val = 256 * (h.val % 8) + 128 + b.val; omega))

theorem threshold_read (t : Fin 16384) (h : Fin 8) (a b : Fin 128) :
    (val_main_v39 (F := Ideal) x2) (ix4 t h a b) = tokSt x2 t ⟨h.val % 8, by omega⟩ := by
  pointwise [val_main_v39, val_main_v38, val_main_v6, val_main_v2]
  exact congrArg (tokSt x2 t) (Fin.ext (by show h.val = h.val % 8; omega))

/-- A candidate's gate before the threshold. -/
theorem raw_read (t : Fin 16384) (h : Fin 8) (a b : Fin 128) :
    (val_main_v37 (F := Ideal) x1 x2) (ix4 t h a b) =
      Ideal.exp ((tokSc x1 t ⟨256 * (h.val % 8) + a.val, by omega⟩ - tokSt x2 t ⟨8 + h.val % 8, by omega⟩)
        + (tokSc x1 t ⟨256 * (h.val % 8) + 128 + b.val, by omega⟩ - tokSt x2 t ⟨16 + h.val % 8, by omega⟩))
        * tokSt x2 t ⟨24 + h.val % 8, by omega⟩ := by
  have e : h = ⟨h.val % 8, by omega⟩ := Fin.ext (by show h.val = h.val % 8; omega)
  have f : (⟨256 * (h.val % 8) + a.val, by omega⟩ : Fin 2048) = ⟨h.val % 8 * 256 + a.val, by omega⟩ :=
    Fin.ext (by show 256 * (h.val % 8) + a.val = h.val % 8 * 256 + a.val; omega)
  have g : (⟨256 * (h.val % 8) + 128 + b.val, by omega⟩ : Fin 2048) = ⟨h.val % 8 * 256 + 128 + b.val, by omega⟩ :=
    Fin.ext (by show 256 * (h.val % 8) + 128 + b.val = h.val % 8 * 256 + 128 + b.val; omega)
  rw [f, g]
  conv_lhs => rw [e]
  pointwise [val_main_v37, val_main_v36, val_main_v35, val_main_v34, val_main_v33, val_main_v32, val_main_v31,
    val_main_v30, val_main_v29, val_main_v28, val_main_v27, val_main_v26, val_main_v25, val_main_v24, val_main_v23,
    val_main_v22, val_main_v21, val_main_v20, val_main_v19, val_main_v9, val_main_v8, val_main_v7, val_main_v5,
    val_main_v4, val_main_v3, val_main_v1, val_main_v0]
  rfl

/-- A candidate's gate. -/
theorem gate_read (t : Fin 16384) (h : Fin 8) (a b : Fin 128) :
    (val_main_v41 (F := Ideal) x1 x2) (ix4 t h a b) = headGate (tokSc x1 t) (tokSt x2 t) a b h.val := by
  pointwise [val_main_v41, val_main_v40, val_main_v18, val_main_call0_v1, val_main_call0_v0, val_main_cst, id]
  rw [first_read, second_read, threshold_read, raw_read]
  rfl

/-- An expert's weight: the gates summed over the heads. -/
theorem weight_read (t e : Fin 16384) : (val_main_v43 (F := Ideal) x1 x2) (ix2 t e)
    = weight (tokSc x1 t) (tokSt x2 t) ⟨e.val / 128, by omega⟩ ⟨e.val % 128, by omega⟩ := by
  pointwise [val_main_v43, val_main_v42, val_main_cst_0]
  exact Finset.sum_congr rfl fun h _ => gate_read x1 x2 t h _ _

/-- An expert's activation. -/
theorem activation_read (t e : Fin 16384) :
    (val_main_v53 (F := Ideal) x0 x3) (ix2 t e) = activation (tokHid x0 t) (rowsOf x3) e := by
  pointwise [val_main_v53, val_main_v52, val_main_v51, val_main_v50, val_main_v49, val_main_v48, val_main_v47,
    val_main_v46, val_main_v45, val_main_v44, val_main_cst_1, val_main_cst_2]
  exact gelu_erfc _

/-- The reference's result at a token and a column. -/
theorem out_read (t : Fin 16384) (d : Fin 1024) :
    (val_main_v57 (F := Ideal) x0 x1 x2 x3 x4 x5) (ix2 t d) = outAt x0 x1 x2 x3 x4 x5 t d := by
  pointwise [val_main_v57, val_main_v56, val_main_v55, val_main_v54]
  refine congrArg (fun s : EReal => x5 (ix2 t d) + s) (Finset.sum_congr rfl fun e _ => ?_)
  rw [weight_read, activation_read]
  rfl

end

end Cert.Experts
end
-- ==== Proof.ExpertsValue.lean ====
/-
  The expert retrieval over the extended reals: the array the kernel returns is, at every token and column, the
  retrieval's result, and so is the reference's.
-/
module

public import proofs.«01_k».proof.Proof.ExpertsPoint
public import proofs.«01_k».proof.Proof.ExpertsReference
public import Idealize.ShloMosaic.Lib.Pipeline.ValueKit.Geometry
public import Idealize.ShloMosaic.Lib.StableHlo.ReadAt

@[expose] public section

set_option maxRecDepth 16384

noncomputable section

namespace Cert.Experts

open Cert.Kernel4Ideal Cert.Kernel4Ideal.Gen Cert.Kernel4Ideal.Value Idealize.ShloMosaic Idealize.ShloMosaic.TcCoe Idealize.SL.Sem

/-! ### Where the blocks lie. -/

theorem eidx0 : ∀ t : Fin cfg0.N, win0_0.index t = ![0, t.val / 16] := (by decide +kernel : ∀ t : Fin grid0.N, _)
theorem eidx1 : ∀ t : Fin cfg0.N, win0_1.index t = ![0, t.val / 16] := (by decide +kernel : ∀ t : Fin grid0.N, _)
theorem eidx2 : ∀ t : Fin cfg0.N, win0_2.index t = ![0, t.val / 16] := (by decide +kernel : ∀ t : Fin grid0.N, _)
theorem eidx3 : ∀ t : Fin cfg0.N, win0_3.index t = ![t.val % 16, 0] := (by decide +kernel : ∀ t : Fin grid0.N, _)
theorem eidx4 : ∀ t : Fin cfg0.N, win0_4.index t = ![0, t.val % 16] := (by decide +kernel : ∀ t : Fin grid0.N, _)
theorem eidx5 : ∀ t : Fin cfg0.N, win0_5.index t = ![t.val / 16, 0] := (by decide +kernel : ∀ t : Fin grid0.N, _)
theorem eidx6 : ∀ t : Fin cfg0.N, win0_6.index t = ![t.val / 16, 0] := (by decide +kernel : ∀ t : Fin grid0.N, _)
theorem step_coord : ∀ t : Fin cfg0.N, ((grid0.coords t) 1).val = t.val % 16 := (by decide +kernel : ∀ t : Fin grid0.N, _)

theorem points (t : Fin cfg0.N) : t.val < 512 := t.isLt

variable (m : (ℓ : Loc nD τ sig) → Buf (Elt Ideal) ℓ) (c : Dev nD)

/-! ### The arguments, and the blocks read from them. -/

def argH : Vec Ideal S16384x1024 .bf16 := m (c, Proc.tc.devRef main_arg0)
def argSc : Vec Ideal S2048x16384 .f32 := m (c, Proc.tc.devRef main_arg1)
def argSt : Vec Ideal S32x16384 .f32 := m (c, Proc.tc.devRef main_arg2)
def argU : Vec Ideal S1x16384x1024 .f32 := m (c, Proc.tc.devRef main_arg3)
def argV : Vec Ideal S1x16384x1024 .f32 := m (c, Proc.tc.devRef main_arg4)
def argX : Vec Ideal S16384x1024 .f32 := m (c, Proc.tc.devRef main_arg5)

theorem hid_read (d : Fin 1024) (k : Fin 16384) : (V m c main_v0 : Vec Ideal S1024x16384 .bf16) (ix2 d k) = argH m c (ix2 k d) := by
  unfold V
  after_reads_at
  rfl

theorem sc_read (r : Fin 2048) (k : Fin 16384) : (V m c main_arg1 : Vec Ideal S2048x16384 .f32) (ix2 r k) = argSc m c (ix2 r k) := by
  unfold V
  after_reads_at
  rfl

theorem st_read (r : Fin 32) (k : Fin 16384) : (V m c main_arg2 : Vec Ideal S32x16384 .f32) (ix2 r k) = argSt m c (ix2 r k) := by
  unfold V
  after_reads_at
  rfl

theorem u_read (e : Fin 16384) (d : Fin 1024) : (V m c main_v2 : Vec Ideal S16384x1024 .bf16) (ix2 e d) = argU m c (ix3 0 e d) := by
  unfold V
  after_reads_at
  rfl

theorem v_read (d : Fin 1024) (e : Fin 16384) : (V m c main_v5 : Vec Ideal S1024x16384 .bf16) (ix2 d e) = argV m c (ix3 0 e d) := by
  unfold V
  after_reads_at
  rfl

theorem x_read (k : Fin 16384) (d : Fin 1024) : (V m c main_arg5 : Vec Ideal S16384x1024 .f32) (ix2 k d) = argX m c (ix2 k d) := by
  unfold V
  after_reads_at
  rfl

/-- Token `l` of a grid point's tile. -/
def tok (t : Fin cfg0.N) (l : Fin 512) : Fin 16384 := ⟨512 * (t.val / 16) + l.val, by have := points t; omega⟩

/-- Expert `x` of a grid point's step. -/
def exper (t : Fin cfg0.N) (x : Fin 1024) : Fin 16384 := ⟨1024 * (t.val % 16) + x.val, by omega⟩

theorem blk_hid (t : Fin cfg0.N) (d : Fin 1024) (l : Fin 512) :
    (iblk m c 0 t : Vec Ideal S1024x512 .bf16) (ix2 d l) = argH m c (ix2 (tok t l) d) := by
  refine Eq.trans ?_ (hid_read m c d (tok t l))
  blk_simp [iblk, eidx0]
  exact congrArg _ (by blk_ext [eidx0, tok])

theorem blk_sc (t : Fin cfg0.N) (r : Fin 2048) (l : Fin 512) :
    (iblk m c 1 t : Vec Ideal S2048x512 .f32) (ix2 r l) = argSc m c (ix2 r (tok t l)) := by
  refine Eq.trans ?_ (sc_read m c r (tok t l))
  blk_simp [iblk, eidx1]
  exact congrArg _ (by blk_ext [eidx1, tok])

theorem blk_st (t : Fin cfg0.N) (r : Fin 32) (l : Fin 512) :
    (iblk m c 2 t : Vec Ideal S32x512 .f32) (ix2 r l) = argSt m c (ix2 r (tok t l)) := by
  refine Eq.trans ?_ (st_read m c r (tok t l))
  blk_simp [iblk, eidx2]
  exact congrArg _ (by blk_ext [eidx2, tok])

theorem blk_u (t : Fin cfg0.N) (x d : Fin 1024) :
    (iblk m c 3 t : Vec Ideal S1024x1024 .bf16) (ix2 x d) = argU m c (ix3 0 (exper t x) d) := by
  refine Eq.trans ?_ (u_read m c (exper t x) d)
  blk_simp [iblk, eidx3]
  exact congrArg _ (by blk_ext [eidx3, exper])

theorem blk_v (t : Fin cfg0.N) (d x : Fin 1024) :
    (iblk m c 4 t : Vec Ideal S1024x1024 .bf16) (ix2 d x) = argV m c (ix3 0 (exper t x) d) := by
  refine Eq.trans ?_ (v_read m c d (exper t x))
  blk_simp [iblk, eidx4]
  exact congrArg _ (by blk_ext [eidx4, exper])

theorem blk_x (t : Fin cfg0.N) (l : Fin 512) (d : Fin 1024) :
    (iblk m c 5 t : Vec Ideal S512x1024 .f32) (ix2 l d) = argX m c (ix2 (tok t l) d) := by
  refine Eq.trans ?_ (x_read m c (tok t l) d)
  blk_simp [iblk, eidx5]
  exact congrArg _ (by blk_ext [eidx5, tok])

/-! ### The accumulator after every step. -/

/-- The sum over the experts below `n` for a token of a tile. -/
def upTo (k : Fin 16384) (d : Fin 1024) (n : ℕ) : EReal :=
  partialSum (tokHid (argH m c) k) (tokSc (argSc m c) k) (tokSt (argSt m c) k) (rowsOf (argU m c)) (rowsOf (argV m c)) d n

/-- One step adds the step's experts to the sum. -/
theorem step_sum (t : Fin cfg0.N) (e : ℕ → Vec Ideal S1x128x512 .f32) (acc : Vec Ideal S1024x512 .f32) (d : Fin 1024) (l : Fin 512)
    (he : Stored (iblk m c 1 t) (iblk m c 2 t) e l) (ha : (acc (ix2 d l) : EReal) = upTo m c (tok t l) d (1024 * (t.val % 16))) :
    (nextAcc (iblk m c 0 t) (iblk m c 1 t) (iblk m c 2 t) (iblk m c 3 t) (iblk m c 4 t) e (grid0.coords t) acc (ix2 d l) : EReal)
      = upTo m c (tok t l) d (1024 * (t.val % 16 + 1)) := by
  have hk : t.val % 16 < 16 := Nat.mod_lt _ (by decide)
  refine (nextAcc_read (iblk m c 0 t) (iblk m c 1 t) (iblk m c 2 t) (iblk m c 3 t) (iblk m c 4 t) e (grid0.coords t) l he acc d
    (t.val % 16) hk (step_coord t)).trans ?_
  refine Eq.trans ?_ (partialSum_step _ _ _ _ _ d (t.val % 16) hk).symm
  rw [ha]
  refine congrArg (fun s : EReal => upTo m c (tok t l) d (1024 * (t.val % 16)) + s) (Finset.sum_congr rfl fun x _ => ?_)
  have h0 : colHid (iblk m c 0 t) l = tokHid (argH m c) (tok t l) := funext fun d' => blk_hid m c t d' l
  have h1 : colSc (iblk m c 1 t) l = tokSc (argSc m c) (tok t l) := funext fun r => blk_sc m c t r l
  have h2 : colSt (iblk m c 2 t) l = tokSt (argSt m c) (tok t l) := funext fun r => blk_st m c t r l
  have h3 : (∑ d' : Fin 1024, tokHid (argH m c) (tok t l) d' * ((iblk m c 3 t : Vec Ideal S1024x1024 .bf16) (ix2 x d') : EReal))
      = ∑ d' : Fin 1024, tokHid (argH m c) (tok t l) d' * rowsOf (argU m c) (exper t x) d' :=
    Finset.sum_congr rfl fun d' _ => congrArg (fun s : EReal => tokHid (argH m c) (tok t l) d' * s) (blk_u m c t x d')
  rw [h0, h1, h2, h3, blk_v]
  rfl

/-- The stored exponentials serve every step of the tile. -/
theorem stored_tile (t t' : Fin cfg0.N) (h : t.val / 16 = t'.val / 16) (e : ℕ → Vec Ideal S1x128x512 .f32) (l : Fin 512)
    (he : Stored (iblk m c 1 t) (iblk m c 2 t) e l) : Stored (iblk m c 1 t') (iblk m c 2 t') e l := by
  have hk : tok t l = tok t' l := Fin.ext (by show 512 * (t.val / 16) + l.val = 512 * (t'.val / 16) + l.val; rw [h])
  have h1 : colSc (iblk m c 1 t') l = colSc (iblk m c 1 t) l :=
    funext fun r => (blk_sc m c t' r l).trans ((congrArg (fun k => argSc m c (ix2 r k)) hk.symm).trans (blk_sc m c t r l).symm)
  have h2 : colSt (iblk m c 2 t') l = colSt (iblk m c 2 t) l :=
    funext fun r => (blk_st m c t' r l).trans ((congrArg (fun k => argSt m c (ix2 r k)) hk.symm).trans (blk_st m c t r l).symm)
  intro h b hh
  rw [h1, h2]
  exact he h b hh

/-- After every step but a tile's last the stored exponentials are the tile's. -/
theorem stored_after (n : ℕ) : ∀ (hn : n < cfg0.N), ¬ n % 16 = 15 → ∀ l : Fin 512,
    Stored (iblk m c 1 ⟨n, hn⟩) (iblk m c 2 ⟨n, hn⟩) (headExp (outsAt0 m c n hn).2.2) l := by
  induction n with
  | zero =>
    intro hn h1 l h b hh
    rw [exp_first m c ⟨0, hn⟩ rfl h1 h hh]
    exact newExp_read _ _ h b l
  | succ n ih =>
    intro hn h1 l
    by_cases h0 : (n + 1) % 16 = 0
    · intro h b hh
      rw [exp_first m c ⟨n + 1, hn⟩ h0 h1 h hh]
      exact newExp_read _ _ h b l
    · rw [exp_middle m c ⟨n + 1, hn⟩ h0 h1]
      exact stored_tile m c ⟨n, by omega⟩ ⟨n + 1, hn⟩ (by show n / 16 = (n + 1) / 16; omega) _ l (ih (by omega) (by omega) l)

/-- After every step the accumulator is the sum over the experts so far. -/
theorem acc_after (n : ℕ) : ∀ (hn : n < cfg0.N) (d : Fin 1024) (l : Fin 512),
    ((outsAt0 m c n hn).2.1 (ix2 d l) : EReal) = upTo m c (tok ⟨n, hn⟩ l) d (1024 * (n % 16 + 1)) := by
  have first : ∀ (t : Fin cfg0.N) (d : Fin 1024) (l : Fin 512), t.val % 16 = 0 →
      ((outsAt0 m c t.val t.isLt).2.1 (ix2 d l) : EReal) = upTo m c (tok t l) d (1024 * (t.val % 16 + 1)) := by
    intro t d l h0
    rw [acc_first m c t h0 (by omega)]
    refine step_sum m c t _ _ d l (fun h b _ => newExp_read _ _ h b l) ((acc_clear d l).trans ?_)
    rw [h0]
    exact (partialSum_zero _ _ _ _ _ d).symm
  induction n with
  | zero => exact fun hn d l => first ⟨0, hn⟩ d l rfl
  | succ n ih =>
    intro hn d l
    by_cases h0 : (n + 1) % 16 = 0
    · exact first ⟨n + 1, hn⟩ d l h0
    have hp : n < cfg0.N := by omega
    have ht : n / 16 = (n + 1) / 16 := by omega
    have he := stored_tile m c ⟨n, hp⟩ ⟨n + 1, hn⟩ ht _ l (stored_after m c n hp (by omega) l)
    have hk : tok ⟨n, hp⟩ l = tok ⟨n + 1, hn⟩ l :=
      Fin.ext (by show 512 * (n / 16) + l.val = 512 * ((n + 1) / 16) + l.val; rw [ht])
    have ha := ih hp d l
    rw [hk, show n % 16 + 1 = (n + 1) % 16 by omega] at ha
    by_cases h1 : (n + 1) % 16 = 15
    · rw [acc_last m c ⟨n + 1, hn⟩ h0 h1]
      exact step_sum m c ⟨n + 1, hn⟩ _ _ d l he ha
    · rw [acc_middle m c ⟨n + 1, hn⟩ h0 h1]
      exact step_sum m c ⟨n + 1, hn⟩ _ _ d l he ha

/-! ### The result. -/

/-- The retrieval's result as an array. -/
def result : Vec Ideal S16384x1024 .f32 := fun i =>
  outAt (argH m c) (argSc m c) (argSt m c) (argU m c) (argV m c) (argX m c) (i 0) (i 1)

theorem result_eq : (dats m 0 c).arrAt 6 cfg0.N = result m c := by
  refine (dats m 0 c).arrAt_eq_of_covers 6 (result m c) (by decide +kernel) fun t hf y => ?_
  have h1 : t.val % 16 = 15 := (flush0_6 t).mp hf
  blk_simp [eidx6]
  rw [after0_6]
  obtain ⟨l, d, rfl⟩ : ∃ (l : Fin 512) (d : Fin 1024), (y : S512x1024.Idx) = ix2 l d := ⟨y 0, y 1, eq_ix2 y⟩
  have e : (win0_6.blk t).view.emb (ix2 l d) = ix2 (tok t l) d := by blk_ext [eidx6, tok]
  refine Eq.trans ?_ (congrArg (result m c) e.symm)
  rw [out_last m c t (by omega) h1]
  refine (out_store _ _ l d).trans ?_
  rw [acc_after m c t.val t.isLt d l, h1, blk_x]
  exact congrArg (fun s : EReal => argX m c (ix2 (tok t l) d) + s) (partialSum_all _ _ _ _ _ d)

/-- The reference's result is the same array. -/
theorem reference_eq (x0 : S16384x1024.Idx → EReal) (x1 : S2048x16384.Idx → EReal) (x2 : S32x16384.Idx → EReal)
    (x3 x4 : S1x16384x1024.Idx → EReal) (x5 : S16384x1024.Idx → EReal) (h0 : argH m c = x0) (h1 : argSc m c = x1)
    (h2 : argSt m c = x2) (h3 : argU m c = x3) (h4 : argV m c = x4) (h5 : argX m c = x5) :
    Cert.Reference4Ideal.Read.val_main_v57 (F := Ideal) x0 x1 x2 x3 x4 x5 = result m c := by
  subst h0 h1 h2 h3 h4 h5
  funext i
  obtain ⟨k, d, rfl⟩ : ∃ (k : Fin 16384) (d : Fin 1024), (i : S16384x1024.Idx) = ix2 k d := ⟨i 0, i 1, eq_ix2 i⟩
  exact out_read _ _ _ _ _ _ k d

end Cert.Experts

end
-- ==== Proof.ExpertsClaim.lean ====
/-
  The claim about the expert retrieval: from equal arguments the call and its reference end with equal results.
-/
module

public import proofs.«01_k».proof.Defs
public import proofs.«01_k».proof.Proof.ExpertsValue
public import proofs.«01_k».proof.Proof.Gen.Kernel4Ideal.Frame
public import proofs.«01_k».proof.Proof.Gen.Reference4Ideal.Run

@[expose] public section

noncomputable section

namespace Cert.Experts

open Idealize.ShloMosaic Idealize.ShloMosaic.TcCoe Idealize.SL.Sem

theorem algebraic : Cert.algebraic_Kernel4Ideal_Reference4Ideal := by
  intro m ρ m' ρ' _ hagree
  refine ⟨fun c => result m c, ?_, ?_⟩
  · refine (θ_run Cert.Kernel4Ideal.defs _ _).mono (fun _ h c => ?_) (Cert.Kernel4Ideal.Value.run_blocks (F := Ideal) m ρ)
    exact ⟨(h c).1.trans (result_eq m c), (h c).2⟩
  · refine (θ_run Cert.Reference4Ideal.defs _ _).mono (fun _ h c => ⟨(h c).1.trans ?_, (h c).2⟩)
      (Cert.Reference4Ideal.Value.run (F := Ideal) m' ρ')
    obtain ⟨h0, h1, h2, h3, h4, h5⟩ := hagree c
    refine (Cert.Reference4Ideal.Read.val_main_v57_eq m' c).trans ?_
    exact reference_eq m c _ _ _ _ _ _ h0.symm h1.symm h2.symm h3.symm h4.symm h5.symm

end Cert.Experts

end
-- ==== Proof.BiasMath.lean ====
/-
  The mathematics of the relative position bias: the bucket of a distance, that there are 32 buckets, and that a chain of 32
  selections, one for each bucket, picks the entry of the bucket.
-/
module

public import proofs.«01_k».proof.Defs
public import Idealize.ShloMosaic.PureOps.Ideal
public import Idealize.ShloMosaic.Lib.ValueIdxCore
public import Idealize.ShloMosaic.Lib.Pointwise

@[expose] public section

noncomputable section

namespace Cert.Bias

open Idealize.ShloMosaic

/-- The bucket of a distance past 16, before it is cut at 31: sixteen and the whole part of a logarithm. -/
def farBucket (n : BitVec 32) : BitVec 32 :=
  IntOp.addi 16#32 (FloatOps.fptosi (F := Ideal) (φ := .f32) 32 (Ideal.div (Ideal.log (Ideal.div
    (FloatOps.sitofp (F := Ideal) .f32 (IntOp.maxsi n 1#32)) (Ideal.ofBits .f32 0x41800000#32)))
    (Ideal.ofBits .f32 0x409B43D5#32) * Ideal.ofBits .f32 0x41800000#32))

/-- The bucket of a distance: the distance itself below sixteen, and by its logarithm from there on. -/
def bucket (d : BitVec 32) : BitVec 32 :=
  Scalar.select (IntOp.cmpi .slt (IntOp.maxsi d 0#32) 16#32) (IntOp.maxsi d 0#32)
    (IntOp.minsi (farBucket (IntOp.maxsi d 0#32)) 31#32)

theorem sixteen : Ideal.ofBits .f32 0x41800000#32 = ((16 : ℝ) : EReal) := by
  simp [Ideal.ofBits, Ideal.ieee]
  rw [← EReal.coe_mul]
  norm_num

theorem logRange : Ideal.ofBits .f32 0x409B43D5#32 = ((10175445 / 2097152 : ℝ) : EReal) := by
  simp [Ideal.ofBits, Ideal.ieee]
  rw [← EReal.coe_mul]
  norm_num

theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem log_real (x : ℝ) (hx : 0 < x) : Ideal.log (x : EReal) = ((Real.log x : ℝ) : EReal) := by
  rw [Ideal.log_coe, if_neg (not_le.mpr hx)]

theorem farBucket_bounds (n : BitVec 32) (h : 16 ≤ n.toInt) : 16 ≤ (farBucket n).toInt := by
  have hn : IntOp.maxsi n 1#32 = n := by
    unfold IntOp.maxsi
    rw [if_pos (by rw [BitVec.slt_eq_decide]; simpa using by omega)]
  have hlt : n.toInt < 2 ^ 31 := by have := BitVec.toInt_lt (x := n); simpa using this
  unfold farBucket
  rw [hn, sixteen, logRange]
  have e : (FloatOps.sitofp (F := Ideal) .f32 n : EReal) = ((n.toInt : ℝ) : EReal) := rfl
  have hN : (16 : ℝ) ≤ (n.toInt : ℝ) := by exact_mod_cast h
  have hN' : (n.toInt : ℝ) < 2 ^ 31 := by exact_mod_cast hlt
  rw [e, div_real _ _ (by norm_num), log_real _ (by positivity), div_real _ _ (by norm_num), ← EReal.coe_mul]
  have l0 : 0 ≤ Real.log ((n.toInt : ℝ) / 16) := Real.log_nonneg (by linarith)
  have l1 : Real.log ((n.toInt : ℝ) / 16) ≤ (n.toInt : ℝ) / 16 - 1 := Real.log_le_sub_one_of_pos (by positivity)
  set r : ℝ := Real.log ((n.toInt : ℝ) / 16) / (10175445 / 2097152) * 16 with hr
  have r0 : 0 ≤ r := by positivity
  have r1 : r ≤ 2 ^ 30 := by
    rw [hr]
    linarith
  have f0 : 0 ≤ ⌊r⌋ := Int.floor_nonneg.mpr r0
  have f1 : ⌊r⌋ ≤ 2 ^ 30 := by
    have := (Int.floor_le r).trans r1
    exact_mod_cast this
  show 16 ≤ (16#32 + BitVec.ofInt 32 (max _ (min _ (if 0 ≤ r then ⌊r⌋ else ⌈r⌉)))).toInt
  rw [if_pos r0, min_eq_right (by norm_num; omega), max_eq_right (by norm_num; omega), BitVec.toInt_add, BitVec.toInt_ofInt]
  simp only [BitVec.reduceToInt]
  rw [Int.bmod_eq_of_le (n := ⌊r⌋) (by norm_num; omega) (by norm_num; omega), Int.bmod_eq_of_le (by norm_num; omega) (by norm_num; omega)]
  omega

/-- There are 32 buckets. -/
theorem bucket_bounds (d : BitVec 32) : 0 ≤ (bucket d).toInt ∧ (bucket d).toInt < 32 := by
  have h0 : 0 ≤ (IntOp.maxsi d 0#32).toInt := by
    unfold IntOp.maxsi
    rw [BitVec.slt_eq_decide]
    split
    · rename_i h; simpa using (of_decide_eq_true h).le
    · simp
  unfold bucket
  generalize IntOp.maxsi d 0#32 = n at h0
  unfold Scalar.select IntOp.cmpi
  simp only [BitVec.slt_eq_decide]
  by_cases h : n.toInt < (16#32).toInt
  · have h' : n.toInt < 16 := by simpa using h
    simp only [h, decide_true, BitVec.ofBool_true]
    rw [if_pos (by decide)]
    omega
  · have h' : 16 ≤ n.toInt := by simpa using h
    simp only [h, decide_false, BitVec.ofBool_false]
    rw [if_neg (by decide)]
    have := farBucket_bounds n h'
    unfold IntOp.minsi
    rw [BitVec.slt_eq_decide]
    split
    · rename_i hh; have := of_decide_eq_true hh; simp at this; omega
    · simp

/-- The bucket as a column of the table. -/
def column (d : BitVec 32) : Fin 32 := ⟨(bucket d).toInt.toNat, by have := bucket_bounds d; omega⟩

theorem bucket_eq_column (d : BitVec 32) : bucket d = BitVec.ofNat 32 (column d).val := by
  have h := bucket_bounds d
  apply BitVec.eq_of_toInt_eq
  show _ = (BitVec.ofNat 32 (bucket d).toInt.toNat).toInt
  rw [BitVec.toInt_ofNat']
  rw [Int.toNat_of_nonneg h.1, Int.bmod_eq_of_le (by norm_num; omega) (by norm_num; omega)]

/-- A chain of selections, one for each of the buckets below `k`. -/
def picked (b : BitVec 32) (row : ℕ → EReal) : ℕ → EReal
  | 0 => 0
  | k + 1 => Scalar.select (IntOp.cmpi .eq b (BitVec.ofNat 32 k)) (row k) (picked b row k)

theorem picked_eq (j : Fin 32) (row : ℕ → EReal) :
    ∀ k ≤ 32, picked (BitVec.ofNat 32 j.val) row k = if j.val < k then row j.val else 0
  | 0, _ => by simp [picked]
  | k + 1, hk => by
    have ih := picked_eq j row k (by omega)
    rw [picked, ih]
    unfold Scalar.select IntOp.cmpi
    by_cases h : j.val = k
    · rw [h]; simp
    · have hne : (BitVec.ofNat 32 j.val == BitVec.ofNat 32 k) = false := by
        rw [beq_eq_false_iff_ne]
        intro he
        have := congrArg BitVec.toNat he
        simp only [BitVec.toNat_ofNat] at this
        omega
      simp only [hne, BitVec.ofBool_false]
      rw [if_neg (by decide)]
      by_cases h2 : j.val < k
      · rw [if_pos h2, if_pos (by omega)]
      · rw [if_neg h2, if_neg (by omega)]

/-! ### The table. -/

/-- How far row `a` of a block lies past column `b` of the block `o` blocks before. -/
def distance (o : Fin 8) (a b : Fin 256) : BitVec 32 :=
  IntOp.subi (BitVec.ofNat 32 (o.val * 256 + a.val)) (BitVec.ofNat 32 b.val)

/-- The same distance as the difference of the row's position, counted from the column's block, and the column. -/
theorem distance_eq (o : Fin 8) (a b : Fin 256) :
    IntOp.subi (IntOp.addi (BitVec.ofNat 32 (o.val * 256)) (BitVec.ofNat 32 a.val)) (BitVec.ofNat 32 b.val) = distance o a b := by
  unfold distance IntOp.addi
  rw [← BitVec.ofNat_add]

/-- The bucket written out, of a row's position counted from the block at `w`. -/
theorem bucket_open (w : BitVec 32) (o : Fin 8) (a b : Fin 256) (h : w = BitVec.ofNat 32 (o.val * 256)) :
    Scalar.select
      (IntOp.cmpi .slt (IntOp.maxsi (IntOp.subi (IntOp.addi w (BitVec.ofNat 32 a.val)) (BitVec.ofNat 32 b.val)) 0#32) 16#32)
      (IntOp.maxsi (IntOp.subi (IntOp.addi w (BitVec.ofNat 32 a.val)) (BitVec.ofNat 32 b.val)) 0#32)
      (IntOp.minsi
        (farBucket (IntOp.maxsi (IntOp.subi (IntOp.addi w (BitVec.ofNat 32 a.val)) (BitVec.ofNat 32 b.val)) 0#32)) 31#32)
      = bucket (distance o a b) := by
  rw [h, distance_eq]
  rfl

/-- The table: a head's entry for the bucket of the distance. -/
def entry (x : (⟨2, ![32, 8]⟩ : Shape).Idx → EReal) (h o : Fin 8) (a b : Fin 256) : EReal := x (ix2 (column (distance o a b)) h)

/-- The table at every head, block offset, row and column. -/
def table (x : (⟨2, ![32, 8]⟩ : Shape).Idx → EReal) : (⟨4, ![8, 8, 256, 256]⟩ : Shape).Idx → EReal :=
  fun i => entry x (i 0) (i 1) (i 2) (i 3)

end Cert.Bias

end
-- ==== Proof.BiasReference.lean ====
/-
  The relative position bias over the extended reals: the reference's table at a head, a block offset, a row and a column is
  the head's entry of the bucket of their distance.
-/
module

public import proofs.«01_k».proof.Proof.BiasMath
public import proofs.«01_k».proof.Proof.Gen.Reference5Ideal.Read
public import Idealize.ShloMosaic.Lib.ValueIdxCore

@[expose] public section

set_option maxRecDepth 16384

noncomputable section

namespace Cert.Bias

open Cert.Reference5Ideal Cert.Reference5Ideal.Read Cert.Reference5Ideal.Facts₀ Idealize.ShloMosaic Idealize.ShloMosaic.TcCoe
  Idealize.SL.Sem

theorem rel_read (o : Fin 8) (a b : Fin 256) :
    val_main_v28 (F := Ideal) (ix3 o a b) = bucket (distance o a b) := by
  pointwise [val_main_v28, val_main_v27, val_main_v26, val_main_v25, val_main_v24, val_main_v23, val_main_v22, val_main_v21,
    val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3,
    val_main_v2, val_main_v1, val_main_c, val_main_c_0, val_main_c_3, val_main_c_4, val_main_c_5, val_main_cst, val_main_cst_1,
    val_main_cst_2]
  rfl

theorem start_read (o : Fin 8) (a b : Fin 256) :
    val_main_v34 (F := Ideal) (ix4 o a b 0) = bucket (distance o a b) := by
  have h := bucket_bounds (distance o a b)
  have e : val_main_v34 (F := Ideal) (ix4 o a b 0)
      = Scalar.select (IntOp.cmpi .slt (bucket (distance o a b)) 0#32) (IntOp.addi (bucket (distance o a b)) 32#32)
        (bucket (distance o a b)) := by
    rw [← rel_read]
    pointwise [val_main_v34, val_main_v33, val_main_v32, val_main_v31, val_main_v30, val_main_v29, val_main_c_6, val_main_c_7]
  rw [e]
  have hn : (bucket (distance o a b)).slt 0#32 = false := by
    rw [BitVec.slt_eq_decide]
    exact decide_eq_false (by simp; omega)
  unfold Scalar.select IntOp.cmpi
  simp only [hn, BitVec.ofBool_false]
  exact if_neg (by decide)

theorem transposed_read (x : S32x8.Idx → EReal) (h : Fin 8) (k : Fin 32) : val_main_v0 (F := Ideal) x (ix2 h k) = x (ix2 k h) := by
  pointwise [val_main_v0]

/-- The dimension numbers of the reference's look-up. -/
abbrev dims := gather_S8x32_S8x256x256x1_S8x8x256x256_0_1_n_n_1_3_81

/-- The look-up at an index: the row is the head, the column is the start clamped to the table. -/
theorem lookup_read (x : S8x32.Idx → EReal) (idx : IVec S8x256x256x1 32) (h o : Fin 8) (a b : Fin 256) :
    Host.gather dims x idx (ix4 h o a b) = x (ix2 h ⟨min (idx (ix4 o a b 0)).toInt.toNat 31, by omega⟩) := by
  unfold Host.gather
  refine congrArg x ?_
  have hs : ∀ n, dims.siIdx (ix4 h o a b) n = ix4 o a b 0 := by
    intro n
    funext e
    refine Fin.ext ?_
    match e with
    | ⟨0, _⟩ => rfl
    | ⟨1, _⟩ => rfl
    | ⟨2, _⟩ => rfl
    | ⟨3, _⟩ => show n.val = 0; have := n.isLt; change n.val < 1 at this; omega
  funext e
  refine Fin.ext ?_
  show dims.start (ix4 h o a b) idx e + dims.batchCoord (ix4 h o a b) e + dims.offCoord (ix4 h o a b) e = _
  rw [GatherDims.batchCoord_eq_zero _ _ _ List.not_mem_nil]
  have h01 : e = 0 ∨ e = 1 := by
    match e with
    | ⟨0, _⟩ => exact Or.inl rfl
    | ⟨1, _⟩ => exact Or.inr rfl
  rcases h01 with rfl | rfl
  · unfold GatherDims.start
    rw [dif_neg (show (0 : Fin 2) ∉ dims.startIndexMap by decide)]
    simp only [Nat.zero_add]
    rfl
  · rw [GatherDims.offCoord_eq_zero _ _ _ (fun hh => ((GatherDims.mem_sKept _ _).mp hh).1 (List.mem_singleton.mpr rfl))]
    unfold GatherDims.start
    rw [dif_pos (show (1 : Fin 2) ∈ dims.startIndexMap from List.mem_singleton.mpr rfl), hs]
    rfl

theorem table_read (x : S32x8.Idx → EReal) (h o : Fin 8) (a b : Fin 256) :
    val_main_v35 (F := Ideal) x (ix4 h o a b) = entry x h o a b := by
  unfold val_main_v35
  rw [lookup_read, transposed_read]
  have hb := bucket_bounds (distance o a b)
  unfold entry
  refine congrArg (fun k => x (ix2 k h)) (Fin.ext ?_)
  show min (val_main_v34 (F := Ideal) (ix4 o a b 0)).toInt.toNat 31 = _
  rw [start_read]
  show min (bucket (distance o a b)).toInt.toNat 31 = (bucket (distance o a b)).toInt.toNat
  omega

theorem reference_eq (x : S32x8.Idx → EReal) : val_main_v35 (F := Ideal) x = table x := by
  funext i
  obtain ⟨h, o, a, b, rfl⟩ : ∃ (h o : Fin 8) (a b : Fin 256), i = ix4 h o a b := ⟨i 0, i 1, i 2, i 3, eq_ix4 i⟩
  exact table_read x h o a b

end Cert.Bias

end
-- ==== Proof.BiasValue.lean ====
/-
  The relative position bias over the extended reals: the array the kernel returns is the table of the buckets' entries.
-/
module

public import proofs.«01_k».proof.Proof.BiasMath
public import proofs.«01_k».proof.Proof.Gen.Kernel5Ideal.Value
public import Idealize.ShloMosaic.Lib.Pipeline.ValueKit.Tiles
public import Idealize.ShloMosaic.Lib.Pipeline.ValueKit.Geometry
public import Idealize.ShloMosaic.Lib.Pipeline.ReadBack
public import Idealize.ShloMosaic.Lib.StableHlo.ReadAt
public import Idealize.ShloMosaic.Lib.WholeRead

@[expose] public section

set_option maxRecDepth 16384

noncomputable section

namespace Cert.Bias

open Cert.Kernel5Ideal Cert.Kernel5Ideal.Gen Cert.Kernel5Ideal.Value Idealize.ShloMosaic Idealize.ShloMosaic.TcCoe Idealize.SL.Sem

/-! ### Where the blocks lie. -/

theorem bidx0 : ∀ t : Fin cfg0.N, win0_0.index t = ![0, 0] := (by decide +kernel : ∀ t : Fin grid0.N, _)
theorem bidx1 : ∀ t : Fin cfg0.N, win0_1.index t = ![t.val % 8, 0, 0] := (by decide +kernel : ∀ t : Fin grid0.N, _)
theorem bidx2 : ∀ t : Fin cfg0.N, win0_2.index t = ![t.val / 8, t.val % 8, 0, 0] := (by decide +kernel : ∀ t : Fin grid0.N, _)
theorem head_coord : ∀ t : Fin cfg0.N, ((grid0.coords t) 0).val = t.val / 8 := (by decide +kernel : ∀ t : Fin grid0.N, _)

theorem bpoints (t : Fin cfg0.N) : t.val < 64 := t.isLt

variable (m : (ℓ : Loc nD τ sig) → Buf (Elt Ideal) ℓ) (c : Dev nD)

/-- The argument: an entry for every bucket and head. -/
def argB : Vec Ideal S32x8 .f32 := m (c, Proc.tc.devRef main_arg0)

theorem arg_read (k : Fin 32) (h : Fin 8) : (V m c main_arg0 : Vec Ideal S32x8 .f32) (ix2 k h) = argB m c (ix2 k h) := by
  unfold V
  after_reads_at
  rfl

set_option maxHeartbeats 1600000 in
/-- The tiles of buckets that the host prepares. -/
theorem tile_read (o : Fin 8) (a b : Fin 256) :
    (V m c main_v212 : Vec Ideal S8x256x256 .i32) (ix3 o a b) = bucket (distance o a b) := by
  have h : o = 0 ∨ o = 1 ∨ o = 2 ∨ o = 3 ∨ o = 4 ∨ o = 5 ∨ o = 6 ∨ o = 7 := by omega
  rcases h with rfl | rfl | rfl | rfl | rfl | rfl | rfl | rfl <;>
  · unfold V
    after_reads_at
    after_reads_at
    exact bucket_open _ _ a b (by decide)

/-- The head of a grid point. -/
def head (t : Fin cfg0.N) : Fin 8 := ⟨t.val / 8, by have := bpoints t; omega⟩

/-- The block offset of a grid point. -/
def offset (t : Fin cfg0.N) : Fin 8 := ⟨t.val % 8, by omega⟩

theorem blk_arg (t : Fin cfg0.N) (k : Fin 32) (h : Fin 8) :
    (iblk m c 0 t : Vec Ideal S32x8 .f32) (ix2 k h) = argB m c (ix2 k h) := by
  refine Eq.trans ?_ (arg_read m c k h)
  blk_simp [iblk, bidx0]
  exact congrArg _ (by blk_ext [bidx0])

theorem blk_tile (t : Fin cfg0.N) (a b : Fin 256) :
    (iblk m c 1 t : Vec Ideal S1x256x256 .i32) (ix3 0 a b) = bucket (distance (offset t) a b) := by
  refine Eq.trans ?_ (tile_read m c (offset t) a b)
  blk_simp [iblk, bidx1]
  exact congrArg _ (by blk_ext [bidx1, offset])

/-! ### The loop over the buckets. -/

theorem rounds (k : Fin k0_t1_loop.trips) : k.val < 32 := k.isLt.trans_eq (by decide)

theorem small_index : ∀ n : Fin 32, (Scalar.indexCast (BitVec.ofNat 32 n.val) : Index).toNat = n.val := by decide

theorem place_row : ∀ (i : grid0.Coords) (k : Fin k0_t1_loop.trips), k0_off1 i k 0 = k.val := by
  intro i k
  have hk := rounds k
  unfold k0_off1
  simp only [Scf.iv]
  simpa using small_index ⟨k.val, hk⟩

theorem place_col : ∀ (i : grid0.Coords) (k : Fin k0_t1_loop.trips), k0_off1 i k 1 = (i 0).val := by
  intro i k
  have hi : (i 0).val < 8 := (i 0).isLt
  unfold k0_off1
  exact small_index ⟨(i 0).val, by omega⟩

/-- The scalar a round loads: the round's bucket, the point's head. -/
theorem scalar_read (i : grid0.Coords) (arg2 : Memref sig .tc .smem S32x8 .f32) (harg2 : arg2.IsWhole) (x : Vec Ideal S32x8 .f32)
    (k : Fin k0_t1_loop.trips) :
    trip_k0_t1.sl.r (F := Ideal) i arg2 (harg2.unread x) k = x (ix2 ⟨k.val, rounds k⟩ (i 0)) := by
  unfold trip_k0_t1.sl.r
  rw [Memref.IsWhole.readAt_unread]
  refine congrArg x ?_
  funext e
  refine Fin.ext ?_
  match e with
  | ⟨0, _⟩ =>
    show k0_off1 i k 0 + 1 * 0 = k.val
    rw [place_row]
    rfl
  | ⟨1, _⟩ =>
    show k0_off1 i k 1 + 1 * 0 = (i 0).val
    rw [place_col]
    rfl

theorem round_read (v0 : Vec Ideal S1x256x256 .i32) (k : Fin k0_t1_loop.trips) (acc : FVec Ideal S256x256 .f32) (x : Ideal .f32)
    (a b : Fin 256) :
    k0_pay2 (F := Ideal) v0 k acc x (ix2 a b)
      = Scalar.select (IntOp.cmpi .eq (v0 (ix3 0 a b)) (BitVec.ofNat 32 k.val)) x (acc (ix2 a b)) := by
  have hiv : Scf.iv 0#32 1#32 k = BitVec.ofNat 32 k.val := by simp [Scf.iv]
  rw [← hiv]
  pointwise [k0_pay2]

theorem store_read (acc : FVec Ideal S256x256 .f32) (a b : Fin 256) :
    k0_pay3 (F := Ideal) acc (ix4 0 0 a b) = acc (ix2 a b) := by
  pointwise [k0_pay3]

theorem clear_read (a b : Fin 256) : k0_pay1 (F := Ideal) (ix2 a b) = (0 : EReal) := by
  pointwise [k0_pay1]

/-- After `n` rounds the tile holds the selections for the buckets below `n`. -/
theorem rounds_read (c : Dev nD) (i : grid0.Coords) (arg2 : Memref sig .tc .smem S32x8 .f32) (harg2 : arg2.IsWhole)
    (arg3 : Memref sig .tc .vmem S1x256x256 .i32) (harg3 : arg3.IsWhole) (arg4 : Memref sig .tc .vmem S1x1x256x256 .f32)
    (harg4 : arg4.IsWhole) (v0 : Vec Ideal S1x256x256 .i32) (x : Vec Ideal S32x8 .f32) (a b : Fin 256) :
    ∀ n ≤ 32, (st_k0_t1 (F := Ideal) Variants.none c none i arg2 harg2 arg3 harg3 arg4 harg4 v0 (harg2.unread x) k0_pay1 n (ix2 a b) : EReal)
      = picked (v0 (ix3 0 a b)) (fun k => if hk : k < 32 then x (ix2 ⟨k, hk⟩ (i 0)) else 0) n
  | 0, _ => by
    rw [st_k0_t1_zero]
    exact clear_read a b
  | n + 1, hn => by
    have hk : n < k0_t1_loop.trips := (show n < 32 by omega).trans_eq (by decide)
    rw [st_k0_t1_succ (k := ⟨n, hk⟩)]
    unfold tripR_k0_t1 trip_k0_t1
    dsimp only
    rw [round_read, scalar_read, picked, rounds_read c i arg2 harg2 arg3 harg3 arg4 harg4 v0 x a b n (by omega), dif_pos (show n < 32 by omega)]

theorem store_point (t : Fin cfg0.N) (a b : Fin 256) :
    (outsAt0 m c t (ix4 0 0 a b) : EReal) = entry (argB m c) (head t) (offset t) a b := by
  unfold outsAt0
  frame_open
  frame_out
  rw [store_read]
  have ht : Scf.trips (0#32) (Scalar.addi 0#32 32#32) 1#32 = 32 := by decide
  rw [ht, rounds_read c _ _ _ _ _ _ _ _ _ a b 32 le_rfl, blk_tile, bucket_eq_column, picked_eq _ _ 32 le_rfl, if_pos (Fin.isLt _), dif_pos (Fin.isLt _)]
  refine (blk_arg m c t _ _).trans ?_
  refine congrArg (fun h => argB m c (ix2 _ h)) (Fin.ext (head_coord t))

theorem result_eq : (dats m 0 c).arrAt 2 cfg0.N = (table (argB m c) : Vec Ideal S8x8x256x256 .f32) := by
  refine (dats m 0 c).arrAt_eq_of_covers 2 (table (argB m c) : Vec Ideal S8x8x256x256 .f32) (by decide +kernel) fun t hf y => ?_
  blk_simp [bidx2]
  rw [after0_2]
  obtain ⟨u, v, a, b, rfl⟩ : ∃ (u v : Fin 1) (a b : Fin 256), (y : S1x1x256x256.Idx) = ix4 u v a b := ⟨y 0, y 1, y 2, y 3, eq_ix4 y⟩
  obtain rfl : u = 0 := Subsingleton.elim _ _
  obtain rfl : v = 0 := Subsingleton.elim _ _
  have e : (win0_2.blk t).view.emb (ix4 0 0 a b) = ix4 (head t) (offset t) a b := by blk_ext [bidx2, head, offset]
  refine Eq.trans ?_ (congrArg (table (argB m c)) e.symm)
  exact store_point m c t a b

end Cert.Bias

end
-- ==== Proof.BiasClaim.lean ====
/-
  The relative position bias: the kernel and the reference end with the same table, from the same argument.
-/
module

public import proofs.«01_k».proof.Defs
public import proofs.«01_k».proof.Proof.BiasReference
public import proofs.«01_k».proof.Proof.BiasValue
public import proofs.«01_k».proof.Proof.Gen.Kernel5Ideal.Frame
public import proofs.«01_k».proof.Proof.Gen.Reference5Ideal.Run

@[expose] public section

noncomputable section

namespace Cert.Bias

open Idealize.ShloMosaic Idealize.ShloMosaic.TcCoe Idealize.SL.Sem

theorem algebraic : Cert.algebraic_Kernel5Ideal_Reference5Ideal := by
  intro m ρ m' ρ' _ hagree
  refine ⟨fun c => table (argB m c), ?_, ?_⟩
  · refine (θ_run Cert.Kernel5Ideal.defs _ _).mono (fun _ h c => ?_) (Cert.Kernel5Ideal.Value.run_blocks (F := Ideal) m ρ)
    exact ⟨(h c).1.trans (result_eq m c), (h c).2⟩
  · refine (θ_run Cert.Reference5Ideal.defs _ _).mono (fun _ h c => ⟨(h c).1.trans ?_, (h c).2⟩)
      (Cert.Reference5Ideal.Value.run (F := Ideal) m' ρ')
    refine (Cert.Reference5Ideal.Read.val_main_v35_eq m' c).trans ?_
    refine (reference_eq _).trans ?_
    exact congrArg table (hagree c)

end Cert.Bias

end
-- ==== Proof.lean ====
/-
  The certificate: the frames of the five calls and of their references, and the claims that a call and its reference end with
  equal results.
-/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.ReferenceFrames
public import proofs.«01_k».proof.Proof.RetentionClaim
public import proofs.«01_k».proof.Proof.InProjClaim
public import proofs.«01_k».proof.Proof.MergeClaim
public import proofs.«01_k».proof.Proof.ExpertsClaim
public import proofs.«01_k».proof.Proof.BiasClaim

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   fun m ρ _ => Cert.Kernel.Gen.frame m ρ, fun m ρ _ => Cert.KernelIdeal.Gen.frame m ρ, Cert.References.retention,
   fun m ρ _ => Cert.Kernel2.Gen.frame m ρ, fun m ρ _ => Cert.Kernel2Ideal.Gen.frame m ρ, Cert.References.projection,
   fun m ρ _ => Cert.Kernel3.Gen.frame m ρ, fun m ρ _ => Cert.Kernel3Ideal.Gen.frame m ρ, Cert.References.merge,
   fun m ρ _ => Cert.Kernel4.Gen.frame m ρ, fun m ρ _ => Cert.Kernel4Ideal.Gen.frame m ρ, Cert.References.experts,
   fun m ρ _ => Cert.Kernel5.Gen.frame m ρ, fun m ρ _ => Cert.Kernel5Ideal.Gen.frame m ρ, Cert.References.bias,
   trivial, Cert.Retention.algebraic, trivial, Cert.InProj.algebraic, trivial, Cert.Merge.algebraic,
   trivial, Cert.Experts.algebraic, trivial, Cert.Bias.algebraic⟩

end Cert.Proof

end
